-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x39D79436#32 ((1 / 2432 : ℝ) : EReal)
  ∧ IdealRules.named_const.Statement Cert.KernelIdeal.κ "inv_d2" .f32 0x34358A48#32 ((1 / 5914624 : ℝ) : EReal)
  ∧ IdealRules.named_const.Statement Cert.KernelIdeal.κ "inv_max" .f32 0x37924925#32 ((1 / 57344 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x2432 : Shape := ⟨3, ![2, 1024, 2432]⟩
abbrev S2x1024 : Shape := ⟨2, ![2, 1024]⟩
abbrev S2x2432 : Shape := ⟨2, ![2, 2432]⟩
abbrev S_ : Shape := ⟨0, ![]⟩

class Facts : Prop where
  natLt_8_32 : 8 < 32
  bcast_S_S2x1024x2432 : S_.BroadcastsInDim S2x1024x2432 (![] : Fin 0 → Fin S2x1024x2432.rank)
  reducesTo_S2x1024x2432_S_d0_1_2 : S2x1024x2432.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S2x2432 : S_.BroadcastsInDim S2x2432 (![] : Fin 0 → Fin S2x2432.rank)
  reducesTo_S2x2432_S_d0_1 : S2x2432.ReducesTo [0, 1] S_

variable [Facts]

def fn_part2 {F : FTy → Type} [FloatOps F] (main_arg7 : FVec F S2x2432 .f32) (main_v29 : IVec S_ 1) (main_v32 : IVec S2x1024 1) (main_c_12 : IVec S_ 1) : IVec S_ 1 :=
  let main_v33 : IVec S_ 1 := (fun x v => Host.reduce IntOp.andi x v reducesTo_S2x1024_S_d0_1 h_S_) main_v32 main_c_12
  let main_v34 : IVec S_ 1 := andi main_v29 main_v33
  let main_v35 : FVec F S2x2432 .f32 := Host.absf main_arg7
  let main_cst_13 : FVec F S_ .f32 := constant S_ .f32 0x53800000#32
  let main_v36 : FVec F S2x2432 .f32 := broadcastInDim S2x2432 ![] bcast_S_S2x2432 main_cst_13
  let main_v37 : IVec S2x2432 1 := cmpf .ole main_v35 main_v36
  let main_c_14 : IVec S_ 1 := constantI S_ 1 1#1
  let main_v38 : IVec S_ 1 := (fun x v => Host.reduce IntOp.andi x v reducesTo_S2x2432_S_d0_1 h_S_) main_v37 main_c_14
  let main_v39 : IVec S_ 1 := andi main_v34 main_v38
  main_v39

def fn_part1 {F : FTy → Type} [FloatOps F] (main_arg1 : FVec F S2x1024 .f32) (main_arg4 : FVec F S2x1024 .f32) (main_arg6 : FVec F S2x1024 .f32) (main_arg7 : FVec F S2x2432 .f32) (main_v12 : IVec S_ 1) (main_v15 : IVec S2x1024x2432 32) (main_c_6 : IVec S_ 32) : IVec S_ 1 :=
  let main_v16 : IVec S2x1024x2432 32 := broadcastInDim S2x1024x2432 ![] bcast_S_S2x1024x2432 main_c_6
  let main_v17 : IVec S2x1024x2432 1 := cmpi .ne main_v15 main_v16
  let main_c_7 : IVec S_ 1 := constantI S_ 1 1#1
  let main_v18 : IVec S_ 1 := (fun x v => Host.reduce IntOp.andi x v reducesTo_S2x1024x2432_S_d0_1_2 h_S_) main_v17 main_c_7
  let main_v19 : IVec S_ 1 := andi main_v12 main_v18
  let main_v20 : FVec F S2x1024 .f32 := Host.absf main_arg1
  let main_cst : FVec F S_ .f32 := constant S_ .f32 0x7F800000#32
  let main_v21 : FVec F S2x1024 .f32 := broadcastInDim S2x1024 ![] bcast_S_S2x1024 main_cst
  let main_v22 : IVec S2x1024 1 := cmpf .olt main_v20 main_v21
  let main_c_8 : IVec S_ 1 := constantI S_ 1 1#1
  let main_v23 : IVec S_ 1 := (fun x v => Host.reduce IntOp.andi x v reducesTo_S2x1024_S_d0_1 h_S_) main_v22 main_c_8
  let main_v24 : IVec S_ 1 := andi main_v19 main_v23
  let main_v25 : FVec F S2x1024 .f32 := Host.absf main_arg4
  let main_cst_9 : FVec F S_ .f32 := constant S_ .f32 0x53800000#32
  let main_v26 : FVec F S2x1024 .f32 := broadcastInDim S2x1024 ![] bcast_S_S2x1024 main_cst_9
  let main_v27 : IVec S2x1024 1 := cmpf .ole main_v25 main_v26
  let main_c_10 : IVec S_ 1 := constantI S_ 1 1#1
  let main_v28 : IVec S_ 1 := (fun x v => Host.reduce IntOp.andi x v reducesTo_S2x1024_S_d0_1 h_S_) main_v27 main_c_10
  let main_v29 : IVec S_ 1 := andi main_v24 main_v28
  let main_v30 : FVec F S2x1024 .f32 := Host.absf main_arg6
  let main_cst_11 : FVec F S_ .f32 := constant S_ .f32 0x53800000#32
  let main_v31 : FVec F S2x1024 .f32 := broadcastInDim S2x1024 ![] bcast_S_S2x1024 main_cst_11
  let main_v32 : IVec S2x1024 1 := cmpf .ole main_v30 main_v31
  let main_c_12 : IVec S_ 1 := constantI S_ 1 1#1
  fn_part2 (F := F) main_arg7 main_v29 main_v32 main_c_12

def fn {F : FTy → Type} [FloatOps F] (main_arg0 : IVec S2x1024x2432 8) (main_arg1 : FVec F S2x1024 .f32) (main_arg2 : FVec F S2x1024x2432 .bf16) (main_arg3 : IVec S2x1024x2432 8) (main_arg4 : FVec F S2x1024 .f32) (main_arg5 : IVec S2x1024x2432 8) (main_arg6 : FVec F S2x1024 .f32) (main_arg7 : FVec F S2x2432 .f32) : IVec S_ 1 :=
  let main_v0 : IVec S2x1024x2432 32 := (extui 32 · natLt_8_32) main_arg0
  let main_c : IVec S_ 32 := constantI S_ 32 127#32
  let main_v1 : IVec S2x1024x2432 32 := broadcastInDim S2x1024x2432 ![] bcast_S_S2x1024x2432 main_c
  let main_v2 : IVec S2x1024x2432 32 := andi main_v0 main_v1
  let main_c_0 : IVec S_ 32 := constantI S_ 32 127#32
  let main_v3 : IVec S2x1024x2432 32 := broadcastInDim S2x1024x2432 ![] bcast_S_S2x1024x2432 main_c_0
  let main_v4 : IVec S2x1024x2432 1 := cmpi .ne main_v2 main_v3
  let main_c_1 : IVec S_ 1 := constantI S_ 1 1#1
  let main_v5 : IVec S_ 1 := (fun x v => Host.reduce IntOp.andi x v reducesTo_S2x1024x2432_S_d0_1_2 h_S_) main_v4 main_c_1
  let main_v6 : IVec S2x1024x2432 32 := (extui 32 · natLt_8_32) main_arg3
  let main_c_2 : IVec S_ 32 := constantI S_ 32 124#32
  let main_v7 : IVec S2x1024x2432 32 := broadcastInDim S2x1024x2432 ![] bcast_S_S2x1024x2432 main_c_2
  let main_v8 : IVec S2x1024x2432 32 := andi main_v6 main_v7
  let main_c_3 : IVec S_ 32 := constantI S_ 32 124#32
  let main_v9 : IVec S2x1024x2432 32 := broadcastInDim S2x1024x2432 ![] bcast_S_S2x1024x2432 main_c_3
  let main_v10 : IVec S2x1024x2432 1 := cmpi .ne main_v8 main_v9
  let main_c_4 : IVec S_ 1 := constantI S_ 1 1#1
  let main_v11 : IVec S_ 1 := (fun x v => Host.reduce IntOp.andi x v reducesTo_S2x1024x2432_S_d0_1_2 h_S_) main_v10 main_c_4
  let main_v12 : IVec S_ 1 := andi main_v5 main_v11
  let main_v13 : IVec S2x1024x2432 32 := (extui 32 · natLt_8_32) main_arg5
  let main_c_5 : IVec S_ 32 := constantI S_ 32 124#32
  let main_v14 : IVec S2x1024x2432 32 := broadcastInDim S2x1024x2432 ![] bcast_S_S2x1024x2432 main_c_5
  let main_v15 : IVec S2x1024x2432 32 := andi main_v13 main_v14
  let main_c_6 : IVec S_ 32 := constantI S_ 32 124#32
  fn_part1 (F := F) main_arg1 main_arg4 main_arg6 main_arg7 main_v12 main_v15 main_c_6
-- ==== Kernel.lean ====
abbrev S2x1024x2432 : Shape := ⟨3, ![2, 1024, 2432]⟩
abbrev S2x1024 : Shape := ⟨2, ![2, 1024]⟩
abbrev S2x2432 : Shape := ⟨2, ![2, 2432]⟩
abbrev S2x3x2432 : Shape := ⟨3, ![2, 3, 2432]⟩
abbrev S2x8x3x2432 : Shape := ⟨4, ![2, 8, 3, 2432]⟩
abbrev S2x128x2432 : Shape := ⟨3, ![2, 128, 2432]⟩
abbrev S2x128 : Shape := ⟨2, ![2, 128]⟩
abbrev S2x1x3x2432 : Shape := ⟨4, ![2, 1, 3, 2432]⟩
abbrev S16x2432 : Shape := ⟨2, ![16, 2432]⟩
abbrev S128x2432 : Shape := ⟨2, ![128, 2432]⟩
abbrev S8x2432 : Shape := ⟨2, ![8, 2432]⟩
abbrev S1x2432 : Shape := ⟨2, ![1, 2432]⟩
abbrev S12x2432 : Shape := ⟨2, ![12, 2432]⟩
abbrev S1x32x128 : Shape := ⟨3, ![1, 32, 128]⟩
abbrev S32x128 : Shape := ⟨2, ![32, 128]⟩
abbrev S1x128x2432 : Shape := ⟨3, ![1, 128, 2432]⟩
abbrev S16x128 : Shape := ⟨2, ![16, 128]⟩
abbrev S1x128 : Shape := ⟨2, ![1, 128]⟩
abbrev S128x128 : Shape := ⟨2, ![128, 128]⟩
abbrev S4x8x128 : Shape := ⟨3, ![4, 8, 128]⟩
abbrev S8x128 : Shape := ⟨2, ![8, 128]⟩
abbrev S128 : Shape := ⟨1, ![128]⟩
abbrev S10x128 : Shape := ⟨2, ![10, 128]⟩
abbrev S13x128 : Shape := ⟨2, ![13, 128]⟩
abbrev S2432 : Shape := ⟨1, ![2432]⟩
abbrev S3x2432 : Shape := ⟨2, ![3, 2432]⟩
abbrev S1x1x3x2432 : Shape := ⟨4, ![1, 1, 3, 2432]⟩
abbrev S1x3x2432 : Shape := ⟨3, ![1, 3, 2432]⟩

abbrev nBuf : Space → Nat
  | .hbm => 15
  | .vmem => 27
  | .smem => 0
  | _ => 0

abbrev bufTy : (tb : Table) → Fin (tcTables nBuf tb) → BufTy
  | .hbm, ⟨0, _⟩ => ⟨S2x1024x2432, .i8⟩
  | .hbm, ⟨1, _⟩ => ⟨S2x1024, .f32⟩
  | .hbm, ⟨2, _⟩ => ⟨S2x1024x2432, .bf16⟩
  | .hbm, ⟨3, _⟩ => ⟨S2x1024x2432, .i8⟩
  | .hbm, ⟨4, _⟩ => ⟨S2x1024, .f32⟩
  | .hbm, ⟨5, _⟩ => ⟨S2x1024x2432, .i8⟩
  | .hbm, ⟨6, _⟩ => ⟨S2x1024, .f32⟩
  | .hbm, ⟨7, _⟩ => ⟨S2x2432, .f32⟩
  | .hbm, ⟨8, _⟩ => ⟨S2x1024x2432, .fp8e4m3⟩
  | .hbm, ⟨9, _⟩ => ⟨S2x1024x2432, .fp8e5m2⟩
  | .hbm, ⟨10, _⟩ => ⟨S2x1024x2432, .fp8e5m2⟩
  | .hbm, ⟨11, _⟩ => ⟨S2x3x2432, .f32⟩
  | .hbm, ⟨12, _⟩ => ⟨S2x8x3x2432, .f32⟩
  | .hbm, ⟨13, _⟩ => ⟨S2x1024x2432, .fp8e5m2⟩
  | .hbm, ⟨14, _⟩ => ⟨S2x1024, .f32⟩
  | .local _ .vmem, ⟨0, _⟩ => ⟨S2x128x2432, .fp8e4m3⟩
  | .local _ .vmem, ⟨1, _⟩ => ⟨S2x128x2432, .fp8e4m3⟩
  | .local _ .vmem, ⟨2, _⟩ => ⟨S2x128, .f32⟩
  | .local _ .vmem, ⟨3, _⟩ => ⟨S2x128, .f32⟩
  | .local _ .vmem, ⟨4, _⟩ => ⟨S2x128x2432, .bf16⟩
  | .local _ .vmem, ⟨5, _⟩ => ⟨S2x128x2432, .bf16⟩
  | .local _ .vmem, ⟨6, _⟩ => ⟨S2x128x2432, .fp8e5m2⟩
  | .local _ .vmem, ⟨7, _⟩ => ⟨S2x128x2432, .fp8e5m2⟩
  | .local _ .vmem, ⟨8, _⟩ => ⟨S2x128, .f32⟩
  | .local _ .vmem, ⟨9, _⟩ => ⟨S2x128, .f32⟩
  | .local _ .vmem, ⟨10, _⟩ => ⟨S2x128x2432, .fp8e5m2⟩
  | .local _ .vmem, ⟨11, _⟩ => ⟨S2x128x2432, .fp8e5m2⟩
  | .local _ .vmem, ⟨12, _⟩ => ⟨S2x128, .f32⟩
  | .local _ .vmem, ⟨13, _⟩ => ⟨S2x128, .f32⟩
  | .local _ .vmem, ⟨14, _⟩ => ⟨S2x2432, .f32⟩
  | .local _ .vmem, ⟨15, _⟩ => ⟨S2x3x2432, .f32⟩
  | .local _ .vmem, ⟨16, _⟩ => ⟨S2x1x3x2432, .f32⟩
  | .local _ .vmem, ⟨17, _⟩ => ⟨S2x1x3x2432, .f32⟩
  | .local _ .vmem, ⟨18, _⟩ => ⟨S2x128x2432, .fp8e5m2⟩
  | .local _ .vmem, ⟨19, _⟩ => ⟨S2x128x2432, .fp8e5m2⟩
  | .local _ .vmem, ⟨20, _⟩ => ⟨S2x128, .f32⟩
  | .local _ .vmem, ⟨21, _⟩ => ⟨S2x128, .f32⟩
  | .local _ .vmem, ⟨22, _⟩ => ⟨S16x2432, .bf16⟩
  | .local _ .vmem, ⟨23, _⟩ => ⟨S128x2432, .bf16⟩
  | .local _ .vmem, ⟨24, _⟩ => ⟨S128x2432, .bf16⟩
  | .local _ .vmem, ⟨25, _⟩ => ⟨S128x2432, .f32⟩
  | .local _ .vmem, ⟨26, _⟩ => ⟨S8x2432, .f32⟩
  | _, _ => ⟨S2x1024x2432, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_3019 : BitVec 32 := 0#32
  let v5210 : BitVec 1 := Scalar.cmpi .eq arg0 c0_i32_3019
  let v5211 : BitVec 32 := Scalar.extui v5210
  let c0_i32_3020 : BitVec 32 := 0#32
  let v5212 : BitVec 1 := Scalar.cmpi .ne v5211 c0_i32_3020
  v5212

def k0_cond2 (i : grid0.Coords) : BitVec 1 :=
  let arg0 : BitVec 32 := BitVec.ofNat 32 (i 0).val
  let c0_i32_3021 : BitVec 32 := 0#32
  let v5213 : BitVec 1 := Scalar.cmpi .sgt arg0 c0_i32_3021
  let v5214 : BitVec 32 := Scalar.extui v5213
  let c0_i32_3022 : BitVec 32 := 0#32
  let v5215 : BitVec 1 := Scalar.cmpi .ne v5214 c0_i32_3022
  v5215

def k0_cond3 (i : grid0.Coords) : BitVec 1 :=
  let arg0 : BitVec 32 := BitVec.ofNat 32 (i 0).val
  let c0_i32_6078 : BitVec 32 := 0#32
  let v10426 : BitVec 1 := Scalar.cmpi .eq arg0 c0_i32_6078
  let v10427 : BitVec 32 := Scalar.extui v10426
  let c0_i32_6079 : BitVec 32 := 0#32
  let v10428 : BitVec 1 := Scalar.cmpi .ne v10427 c0_i32_6079
  v10428

def k0_cond4 (i : grid0.Coords) : BitVec 1 :=
  let arg0 : BitVec 32 := BitVec.ofNat 32 (i 0).val
  let c0_i32_6080 : BitVec 32 := 0#32
  let v10429 : BitVec 1 := Scalar.cmpi .sgt arg0 c0_i32_6080
  let v10430 : BitVec 32 := Scalar.extui v10429
  let c0_i32_6081 : BitVec 32 := 0#32
  let v10431 : BitVec 1 := Scalar.cmpi .ne v10430 c0_i32_6081
  v10431

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x128x2432 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x2432 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x2432 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x2432 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x3x2432 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x1x3x2432 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x128x2432 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "inv_d" => some ((1 / 2432 : ℝ) : EReal)
  | "inv_d2" => some ((1 / 5914624 : ℝ) : EReal)
  | "inv_max" => some ((1 / 57344 : ℝ) : EReal)
  | _ => none
-- ==== ReferenceIdeal.lean ====
abbrev S2x1024x2432 : Shape := ⟨3, ![2, 1024, 2432]⟩
abbrev S2x1024 : Shape := ⟨2, ![2, 1024]⟩
abbrev S2x2432 : Shape := ⟨2, ![2, 2432]⟩
abbrev S2x3x2432 : Shape := ⟨3, ![2, 3, 2432]⟩
abbrev S2x8x3x2432 : Shape := ⟨4, ![2, 8, 3, 2432]⟩
abbrev S2x1024x1 : Shape := ⟨3, ![2, 1024, 1]⟩
abbrev S2x8x128x2432 : Shape := ⟨4, ![2, 8, 128, 2432]⟩
abbrev S2x8x2432 : Shape := ⟨3, ![2, 8, 2432]⟩
abbrev S2x8x1x2432 : Shape := ⟨4, ![2, 8, 1, 2432]⟩
abbrev S2x1x2432 : Shape := ⟨3, ![2, 1, 2432]⟩
abbrev S2x1024x253 : Shape := ⟨3, ![2, 1024, 253]⟩

abbrev nBuf : Space → Nat
  | .hbm => 15
  | .vmem => 12
  | .smem => 0
  | _ => 0

abbrev bufTy : (tb : Table) → Fin (tcTables nBuf tb) → BufTy
  | .hbm, ⟨0, _⟩ => ⟨S2x1024x2432, .i8⟩
  | .hbm, ⟨1, _⟩ => ⟨S2x1024, .f32⟩
  | .hbm, ⟨2, _⟩ => ⟨S2x1024x2432, .bf16⟩
  | .hbm, ⟨3, _⟩ => ⟨S2x1024x2432, .i8⟩
  | .hbm, ⟨4, _⟩ => ⟨S2x1024, .f32⟩
  | .hbm, ⟨5, _⟩ => ⟨S2x1024x2432, .i8⟩
  | .hbm, ⟨6, _⟩ => ⟨S2x1024, .f32⟩
  | .hbm, ⟨7, _⟩ => ⟨S2x2432, .f32⟩
  | .hbm, ⟨8, _⟩ => ⟨S2x1024x2432, .fp8e4m3⟩
  | .hbm, ⟨9, _⟩ => ⟨S2x1024x2432, .fp8e5m2⟩
  | .hbm, ⟨10, _⟩ => ⟨S2x1024x2432, .fp8e5m2⟩
  | .hbm, ⟨11, _⟩ => ⟨S2x3x2432, .f32⟩
  | .hbm, ⟨12, _⟩ => ⟨S2x8x3x2432, .f32⟩
  | .hbm, ⟨13, _⟩ => ⟨S2x1024x2432, .fp8e5m2⟩
  | .hbm, ⟨14, _⟩ => ⟨S2x1024, .f32⟩
  | .local _ .vmem, ⟨0, _⟩ => ⟨S2x1024x2432, .fp8e4m3⟩
  | .local _ .vmem, ⟨1, _⟩ => ⟨S2x1024, .f32⟩
  | .local _ .vmem, ⟨2, _⟩ => ⟨S2x1024x2432, .bf16⟩
  | .local _ .vmem, ⟨3, _⟩ => ⟨S2x1024x2432, .fp8e5m2⟩
  | .local _ .vmem, ⟨4, _⟩ => ⟨S2x1024, .f32⟩
  | .local _ .vmem, ⟨5, _⟩ => ⟨S2x1024x2432, .fp8e5m2⟩
  | .local _ .vmem, ⟨6, _⟩ => ⟨S2x1024, .f32⟩
  | .local _ .vmem, ⟨7, _⟩ => ⟨S2x2432, .f32⟩
  | .local _ .vmem, ⟨8, _⟩ => ⟨S2x3x2432, .f32⟩
  | .local _ .vmem, ⟨9, _⟩ => ⟨S2x8x3x2432, .f32⟩
  | .local _ .vmem, ⟨10, _⟩ => ⟨S2x1024x2432, .fp8e5m2⟩
  | .local _ .vmem, ⟨11, _⟩ => ⟨S2x1024, .f32⟩
  | _, _ => ⟨S2x1024x2432, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "inv_d" => some ((1 / 2432 : ℝ) : EReal)
  | "inv_d2" => some ((1 / 5914624 : ℝ) : EReal)
  | "inv_max" => some ((1 / 57344 : ℝ) : EReal)
  | _ => none

abbrev grid0 : Pipeline.Grid := .none

abbrev stage0_0 : Fin 1 → Memref sig .tc .vmem S2x1024x2432 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x2432 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x2432 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x2432 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x3x2432 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8x3x2432 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024x2432 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Math.lean ====
module

public import Mathlib.Analysis.SpecialFunctions.Pow.Real
public import Mathlib.Data.EReal.Basic

@[expose] public section

noncomputable section

namespace Cert.Mth

open Finset

/-- The mean of a row of 2432 numbers. -/
def mean (f : Fin 2432 → ℝ) : ℝ := (∑ d, f d) * (1 / 2432)

/-- The variance of a row. -/
def var (x : Fin 2432 → ℝ) : ℝ := mean fun d => (x d - mean x) * (x d - mean x)

theorem var_nonneg (x : Fin 2432 → ℝ) : 0 ≤ var x :=
  mul_nonneg (sum_nonneg fun d _ => mul_self_nonneg _) (by norm_num)

/-- The variance by the sums of the entries and of their squares. -/
theorem var_eq (x : Fin 2432 → ℝ) :
    ((∑ d, x d * x d) * 2432 - (∑ d, x d) * (∑ d, x d)) * (1 / 5914624) = var x := by
  have h : ∑ d, (x d - mean x) * (x d - mean x)
      = (∑ d, x d * x d) - 2 * mean x * (∑ d, x d) + 2432 * (mean x * mean x) := by
    have : ∀ d, (x d - mean x) * (x d - mean x) = x d * x d - 2 * mean x * x d + mean x * mean x := fun d => by ring
    simp only [this, sum_add_distrib, sum_sub_distrib, ← mul_sum, sum_const, card_univ, Fintype.card_fin, nsmul_eq_mul]
    norm_num; ring
  have hm : mean x = (∑ d, x d) * (1 / 2432) := rfl
  rw [var]
  unfold mean at *
  rw [h]
  ring

theorem mean_mul (x : Fin 2432 → ℝ) (s : ℝ) : mean (fun d => x d * s) = mean x * s := by
  unfold mean; rw [← sum_mul]; ring

/-- The variance of a row times a number. -/
theorem var_mul (x : Fin 2432 → ℝ) (s : ℝ) : var (fun d => x d * s) = var x * s * s := by
  unfold var
  rw [mean_mul]
  have : (fun d => (x d * s - mean x * s) * (x d * s - mean x * s)) = fun d => ((x d - mean x) * (x d - mean x)) * (s * s) := by
    funext d; ring
  rw [this, mean_mul]; ring

/-- One over the root of a row's variance, the row being `x` times `s`. -/
def rstd (ε : ℝ) (x : Fin 2432 → ℝ) (s : ℝ) : ℝ := (Real.sqrt (var x * s * s + ε))⁻¹

/-- The normalised row. -/
def xhat (ε : ℝ) (x : Fin 2432 → ℝ) (s : ℝ) (d : Fin 2432) : ℝ := (x d * s - mean x * s) * rstd ε x s

/-- The gradient through the modulation, a row: the codes times their scale times one plus the modulation. -/
def grow (h : Fin 2432 → ℝ) (sh : ℝ) (w : Fin 2432 → ℝ) (d : Fin 2432) : ℝ := h d * sh * w d

/-- The gradient of a row before the quantiser. -/
def dx (ε : ℝ) (x : Fin 2432 → ℝ) (sx : ℝ) (y : Fin 2432 → ℝ) (sy : ℝ) (h : Fin 2432 → ℝ) (sh : ℝ)
    (w : Fin 2432 → ℝ) (d : Fin 2432) : ℝ :=
  y d * sy + rstd ε x sx * (grow h sh w d - mean (grow h sh w)
    - xhat ε x sx d * mean fun e => grow h sh w e * xhat ε x sx e)

/-- The gradient of a row by the sums that a kernel takes of the codes. -/
theorem dx_eq (ε : ℝ) (x : Fin 2432 → ℝ) (sx : ℝ) (y : Fin 2432 → ℝ) (sy : ℝ) (h : Fin 2432 → ℝ) (sh : ℝ)
    (w : Fin 2432 → ℝ) (d : Fin 2432) (r m sg sgx mg mgx xr a b k : ℝ) (hr : r = rstd ε x sx)
    (hm : m = (∑ d, x d) * (1 / 2432)) (hsg : sg = ∑ d, w d * h d) (hsgx : sgx = (∑ d, w d * (x d * h d)) - m * sg)
    (hxr : xr = sx * r) (hmg : mg = sg * (1 / 2432)) (hmgx : mgx = sgx * (1 / 2432) * xr) (ha : a = r * sh)
    (hb : b = a * mgx * xr) (hk : k = b * m - a * mg) :
    (y d * sy + a * (h d * w d)) + (k - b * x d) = dx ε x sx y sy h sh w d := by
  have e1 : mean (grow h sh w) = sg * (1 / 2432) * sh := by
    have : grow h sh w = fun d => (w d * h d) * sh := by funext d; unfold grow; ring
    rw [this, mean_mul, hsg]; rfl
  have e2 : (mean fun e => grow h sh w e * xhat ε x sx e) = sgx * (1 / 2432) * xr * sh := by
    have : (fun e => grow h sh w e * xhat ε x sx e) = fun e => (w e * (x e * h e) - m * (w e * h e)) * (sx * r * sh) := by
      funext e; unfold grow xhat; rw [hm, ← hr]; unfold mean; ring
    rw [this, mean_mul]; unfold mean
    rw [sum_sub_distrib, ← mul_sum, ← hsg, ← hsgx, hxr]; ring
  unfold dx
  rw [e1, e2, ← hr]
  have e3 : xhat ε x sx d = (x d * sx - m * sx) * r := by unfold xhat mean; rw [← hr, ← hm]
  rw [e3, hk, hb, hmgx, hmg, ha, hxr]
  generalize sgx = X at *
  unfold grow
  clear * -
  ring

/-- A weighted column sum of the normalised codes by the two sums that a kernel takes. -/
theorem dscale_eq {n : ℕ} (ε : ℝ) (x h : Fin n → Fin 2432 → ℝ) (sx sh : Fin n → ℝ) (d : Fin 2432) :
    (∑ s, (sh s * (sx s * rstd ε (x s) (sx s))) * (x s d * h s d))
      - (∑ s, ((sh s * (sx s * rstd ε (x s) (sx s))) * mean (x s)) * h s d)
    = ∑ s, (h s d * sh s) * xhat ε (x s) (sx s) d := by
  rw [← sum_sub_distrib]
  exact sum_congr rfl fun s _ => by unfold xhat; ring

/-- An entry of the normalised row is at most fifty. -/
theorem abs_xhat_le (ε : ℝ) (hε : 0 < ε) (x : Fin 2432 → ℝ) (s : ℝ) (d : Fin 2432) : |xhat ε x s d| ≤ 50 := by
  have hv := var_nonneg x
  have hpos : 0 < var x * s * s + ε := by nlinarith [mul_nonneg hv (mul_self_nonneg s)]
  have hle : (x d - mean x) * (x d - mean x) ≤ 2432 * var x := by
    have := single_le_sum (f := fun d => (x d - mean x) * (x d - mean x)) (fun d _ => mul_self_nonneg _) (mem_univ d)
    have e : 2432 * var x = ∑ d, (x d - mean x) * (x d - mean x) := by unfold var mean; ring
    rw [e]; exact this
  have hsq : xhat ε x s d * xhat ε x s d ≤ 2432 := by
    have e : xhat ε x s d * xhat ε x s d = ((x d - mean x) * (x d - mean x)) * (s * s) / (var x * s * s + ε) := by
      unfold xhat rstd
      have := Real.mul_self_sqrt hpos.le
      have h0 : Real.sqrt (var x * s * s + ε) ≠ 0 := (Real.sqrt_pos.2 hpos).ne'
      rw [div_eq_mul_inv]
      conv_rhs => rw [← this]
      field_simp
    rw [e, div_le_iff₀ hpos]
    nlinarith [mul_le_mul_of_nonneg_right hle (mul_self_nonneg s)]
  rw [abs_le]; constructor <;> nlinarith

theorem abs_mean_le (f : Fin 2432 → ℝ) (B : ℝ) (h : ∀ d, |f d| ≤ B) : |mean f| ≤ B := by
  unfold mean
  rw [abs_mul, abs_of_pos (by norm_num : (0 : ℝ) < 1 / 2432)]
  have : |∑ d, f d| ≤ 2432 * B := by
    refine (abs_sum_le_sum_abs _ _).trans ((sum_le_sum fun d _ => h d).trans ?_)
    simp
  linarith

theorem rstd_le (x : Fin 2432 → ℝ) (s ε : ℝ) (hε : 1 / 2 ^ 20 ≤ ε) : 0 ≤ rstd ε x s ∧ rstd ε x s ≤ 1024 := by
  have hv := var_nonneg x
  have h1 : ε ≤ var x * s * s + ε := by nlinarith [mul_nonneg hv (mul_self_nonneg s)]
  have h2 : (1 / 1024 : ℝ) ≤ Real.sqrt (var x * s * s + ε) := by
    apply Real.le_sqrt_of_sq_le; norm_num at *; linarith
  refine ⟨inv_nonneg.2 (Real.sqrt_nonneg _), ?_⟩
  unfold rstd
  rw [inv_le_comm₀ (by linarith [h2]) (by norm_num)]
  norm_num at *; linarith

/-- The gradient of a row is far below `2 ^ 126` where scales and modulation are at most `2 ^ 40`. -/
theorem abs_dx_le (ε : ℝ) (hε : 1 / 2 ^ 20 ≤ ε) (x : Fin 2432 → ℝ) (sx : ℝ) (y : Fin 2432 → ℝ) (sy : ℝ) (h : Fin 2432 → ℝ) (sh : ℝ)
    (w : Fin 2432 → ℝ) (hy : ∀ d, |y d| ≤ 57344) (hh : ∀ d, |h d| ≤ 57344) (hsy : |sy| ≤ 2 ^ 40) (hsh : |sh| ≤ 2 ^ 40)
    (hw : ∀ d, |w d| ≤ 2 ^ 41) (d : Fin 2432) : |dx ε x sx y sy h sh w d| ≤ 2 ^ 120 := by
  have hε0 : 0 < ε := lt_of_lt_of_le (by norm_num) hε
  obtain ⟨r0, r1⟩ := rstd_le x sx ε hε
  have hg : ∀ e, |grow h sh w e| ≤ 2 ^ 97 := fun e => by
    unfold grow; rw [abs_mul, abs_mul]
    calc |h e| * |sh| * |w e| ≤ 57344 * 2 ^ 40 * 2 ^ 41 := by
          gcongr
          · exact hh e
          · exact hw e
      _ ≤ 2 ^ 97 := by norm_num
  have hx := abs_xhat_le ε hε0 x sx
  have m1 := abs_mean_le _ _ hg
  have m2 := abs_mean_le (fun e => grow h sh w e * xhat ε x sx e) (2 ^ 97 * 50) fun e => by
    rw [abs_mul]; exact mul_le_mul (hg e) (hx e) (abs_nonneg _) (by positivity)
  unfold dx
  have p1 : |y d * sy| ≤ 57344 * 2 ^ 40 := by rw [abs_mul]; exact mul_le_mul (hy d) hsy (abs_nonneg _) (by norm_num)
  have p2 : |xhat ε x sx d * mean fun e => grow h sh w e * xhat ε x sx e| ≤ 50 * (2 ^ 97 * 50) := by
    rw [abs_mul]; exact mul_le_mul (hx d) m2 (abs_nonneg _) (by norm_num)
  have p3 : |grow h sh w d - mean (grow h sh w) - xhat ε x sx d * mean fun e => grow h sh w e * xhat ε x sx e|
      ≤ 2 ^ 97 + 2 ^ 97 + 50 * (2 ^ 97 * 50) :=
    (abs_sub _ _).trans (add_le_add ((abs_sub _ _).trans (add_le_add (hg d) m1)) p2)
  refine (abs_add_le _ _).trans ?_
  rw [abs_mul (rstd ε x sx), abs_of_nonneg r0]
  have := mul_le_mul r1 p3 (abs_nonneg _) (by norm_num)
  refine (add_le_add p1 this).trans (by norm_num)

end Cert.Mth
-- ==== Proof.Exps.lean ====
module

public import Idealize.ShloMosaic.PureOps.Ideal
public import Idealize.ShloMosaic.PureOps.Ideal.Laws
public import Idealize.ShloMosaic.Lib.IdealHost

@[expose] public section
noncomputable section

/-! The floats the two programs name by their bit patterns, and the powers of two a binary search
over exponent fields meets. -/
namespace Cert.Mth
open Idealize.ShloMosaic

/-- The number an f32 denotes whose exponent field is `n` and whose other bits are zero. -/
def pw (n : ℕ) : EReal := if n = 0 then 0 else if n < 255 then (((2 : ℝ) ^ ((n : ℤ) - 127) : ℝ) : EReal) else ⊤

theorem field_bits : ∀ n : Fin 256, (((BitVec.ofNat 32 n.val) <<< 23).extractLsb' 31 1 == 1#1) = false ∧
    (((BitVec.ofNat 32 n.val) <<< 23).extractLsb' 23 8).toNat = n.val ∧
    (((BitVec.ofNat 32 n.val) <<< 23).extractLsb' 0 23).toNat = 0 := by decide +kernel

theorem ofBits_field (n : ℕ) (hn : n < 256) : Ideal.ofBits .f32 ((BitVec.ofNat 32 n) <<< 23) = pw n := by
  obtain ⟨h1, h2, h3⟩ := field_bits ⟨n, hn⟩
  simp only at h1 h2 h3
  unfold Ideal.ofBits Ideal.ieee pw
  simp only [h1, h2, h3]
  rcases Nat.eq_zero_or_pos n with h | h
  · subst h; simp
  · by_cases h' : n < 255
    · have a : n ≠ 255 := by omega
      have b : n ≠ 0 := by omega
      norm_num [a, b, h']
      rw [show ((n : ℤ) - 127) = 23 + ((n : ℤ) - 127 - 23) by ring, zpow_add₀ (by norm_num)]
      norm_num
    · have : n = 255 := by omega
      subst this; simp

theorem ofBits_2432 : Ideal.ofBits .f32 0x45180000#32 = ((2432 : ℝ) : EReal) := by
  simp [Ideal.ofBits, Ideal.ieee, -EReal.coe_mul]; norm_num
/-- The layer norm's epsilon. -/
def eps : ℝ := 8796093 / 2 ^ 43
theorem eps_pos : 0 < eps := by unfold eps; norm_num
theorem eps_ge : (2 : ℝ) ^ (-20 : ℤ) ≤ eps := by unfold eps; norm_num
theorem ofBits_eps : Ideal.ofBits .f32 0x358637BD#32 = (eps : EReal) := by
  simp [Ideal.ofBits, Ideal.ieee, -EReal.coe_mul, eps]; norm_num
theorem ofBits_57344 : Ideal.ofBits .f32 0x47600000#32 = ((57344 : ℝ) : EReal) := by
  simp [Ideal.ofBits, Ideal.ieee, -EReal.coe_mul]; norm_num
theorem ofBits_neg_57344 : Ideal.ofBits .f32 0xC7600000#32 = ((-57344 : ℝ) : EReal) := by
  simp [Ideal.ofBits, Ideal.ieee, -EReal.coe_mul]; norm_num
theorem ofBits_tiny : Ideal.ofBits .f32 0x00800000#32 = (((2 : ℝ) ^ (-126 : ℤ) : ℝ) : EReal) := by
  simp [Ideal.ofBits, Ideal.ieee, -EReal.coe_mul]; norm_num
theorem ofBits_top : Ideal.ofBits .f32 0x7F800000#32 = ⊤ := by
  simp [Ideal.ofBits, Ideal.ieee]
theorem ofBits_bot : Ideal.ofBits .f32 0xFF800000#32 = ⊥ := by
  simp [Ideal.ofBits, Ideal.ieee]
theorem ofBits_4097 : Ideal.ofBits .f32 0x45800800#32 = ((4097 : ℝ) : EReal) := by
  simp [Ideal.ofBits, Ideal.ieee, -EReal.coe_mul]; norm_num
theorem ofBits_2p40 : Ideal.ofBits .f32 0x53800000#32 = (((2 : ℝ) ^ 40 : ℝ) : EReal) := by
  simp [Ideal.ofBits, Ideal.ieee, -EReal.coe_mul, -EReal.coe_pow]; norm_num

/-- One step of the search: the exponent field `e` grows by `k` when the float with the larger
field is at most `y`. -/
def stp (y : EReal) (e k : BitVec 32) : BitVec 32 :=
  if Ideal.ofBits .f32 ((e + k) <<< 23) ≤ y then e + k else e

/-- The number of a field, with a bound above every number past the largest. -/
def lt' (y : EReal) (n : ℕ) : Prop := n < 256 → y < pw n

theorem stp_spec (y : EReal) (n k : ℕ) (hnk : n + 2 * k ≤ 256) (hk : 0 < k) (hlo : pw n ≤ y) (hhi : lt' y (n + 2 * k)) :
    ∃ n' : ℕ, n' + k ≤ 256 ∧ pw n' ≤ y ∧ lt' y (n' + k) ∧
      stp y (BitVec.ofNat 32 n) (BitVec.ofNat 32 k) = BitVec.ofNat 32 n' := by
  unfold stp
  rw [← BitVec.ofNat_add, ofBits_field _ (by omega)]
  by_cases h : pw (n + k) ≤ y
  · refine ⟨n + k, by omega, h, ?_, by rw [if_pos h]⟩
    rw [show n + k + k = n + 2 * k by omega]; exact hhi
  · exact ⟨n, by omega, hlo, fun _ => not_le.mp h, by rw [if_neg h]⟩

def srch (y : EReal) : BitVec 32 :=
  stp y (stp y (stp y (stp y (stp y (stp y (stp y (stp y 0#32 128#32) 64#32) 32#32) 16#32) 8#32) 4#32) 2#32) 1#32

theorem srch_spec (y : EReal) (h0 : 0 ≤ y) (hy : y < pw 247) :
    ∃ n : ℕ, n < 247 ∧ pw n ≤ y ∧ y < pw (n + 1) ∧ srch y = BitVec.ofNat 32 n := by
  obtain ⟨a, a1, a2, a3, a4⟩ := stp_spec y 0 128 (by omega) (by omega) (by simpa [pw] using h0) (fun h => by omega)
  obtain ⟨b, b1, b2, b3, b4⟩ := stp_spec y a 64 (by omega) (by omega) a2 a3
  obtain ⟨c, c1, c2, c3, c4⟩ := stp_spec y b 32 (by omega) (by omega) b2 b3
  obtain ⟨d, d1, d2, d3, d4⟩ := stp_spec y c 16 (by omega) (by omega) c2 c3
  obtain ⟨e, e1, e2, e3, e4⟩ := stp_spec y d 8 (by omega) (by omega) d2 d3
  obtain ⟨f, f1, f2, f3, f4⟩ := stp_spec y e 4 (by omega) (by omega) e2 e3
  obtain ⟨g, g1, g2, g3, g4⟩ := stp_spec y f 2 (by omega) (by omega) f2 f3
  obtain ⟨n, n1, n2, n3, n4⟩ := stp_spec y g 1 (by omega) (by omega) g2 g3
  have hn : n < 247 := by
    by_contra hc
    have h1 : n < 256 := by omega
    have h2 : pw 247 ≤ pw n := by
      unfold pw
      rw [if_neg (by omega), if_pos (by omega), if_neg (by omega)]
      split_ifs
      · rw [EReal.coe_le_coe_iff]; apply zpow_le_zpow_right₀ (by norm_num : (1 : ℝ) ≤ 2); omega
      · exact le_top
    exact absurd (lt_of_le_of_lt (h2.trans n2) hy) (lt_irrefl _)
  refine ⟨n, hn, n2, n3 (by omega), ?_⟩
  unfold srch
  rw [show (0#32) = BitVec.ofNat 32 0 from rfl, a4, b4, c4, d4, e4, f4, g4, n4]

/-- The exponent the kernel codes with, from the field it found. -/
def efix (E : BitVec 32) : BitVec 32 :=
  if (E - 126#32 = 4294967170#32 ∨ E - 126#32 = 129#32) then 0#32 else E - 126#32

theorem efix_bits : ∀ n : Fin 247, efix (BitVec.ofNat 32 n.val) = (if n.val = 0 then 0#32 else BitVec.ofNat 32 n.val - 126#32) := by
  decide +kernel
theorem scale_bits : ∀ n : Fin 247, (efix (BitVec.ofNat 32 n.val) + 127#32) <<< 23 = BitVec.ofNat 32 (if n.val = 0 then 127 else n.val + 1) <<< 23 := by
  decide +kernel
theorem inv_bits : ∀ n : Fin 247, (127#32 - efix (BitVec.ofNat 32 n.val)) <<< 23 = BitVec.ofNat 32 (if n.val = 0 then 127 else 253 - n.val) <<< 23 := by
  decide +kernel

open Classical in
/-- The row's scale: one below the smallest normal number, otherwise the least power of two above `y`. -/
def rscale (r : ℝ) : ℝ :=
  if r < (2 : ℝ) ^ (-126 : ℤ) then 1 else if h : ∃ k : ℤ, (2 : ℝ) ^ (k - 1) ≤ r ∧ r < (2 : ℝ) ^ k then (2 : ℝ) ^ h.choose else 1

theorem zlt {a b : ℤ} (h : (2 : ℝ) ^ a < (2 : ℝ) ^ b) : a < b := (zpow_lt_zpow_iff_right₀ (by norm_num)).mp h

theorem rscale_eq (r : ℝ) (k : ℤ) (hn : ¬ r < (2 : ℝ) ^ (-126 : ℤ)) (h1 : (2 : ℝ) ^ (k - 1) ≤ r) (h2 : r < (2 : ℝ) ^ k) :
    rscale r = (2 : ℝ) ^ k := by
  have h : ∃ k : ℤ, (2 : ℝ) ^ (k - 1) ≤ r ∧ r < (2 : ℝ) ^ k := ⟨k, h1, h2⟩
  unfold rscale
  rw [if_neg hn, dif_pos h]
  obtain ⟨c1, c2⟩ := h.choose_spec
  have e1 := zlt (lt_of_le_of_lt h1 c2)
  have e2 := zlt (lt_of_le_of_lt c1 h2)
  congr 1; omega

theorem rscale_pos (r : ℝ) : 0 < rscale r := by unfold rscale; split_ifs <;> positivity

theorem kscale (r : ℝ) (h0 : 0 ≤ r) (hr : r < (2 : ℝ) ^ (120 : ℤ)) :
    Ideal.ofBits .f32 ((efix (srch (r : EReal)) + 127#32) <<< 23) = (rscale r : EReal) ∧
    Ideal.ofBits .f32 ((127#32 - efix (srch (r : EReal))) <<< 23) = ((1 / rscale r : ℝ) : EReal) := by
  obtain ⟨n, hn, hlo, hhi, he⟩ := srch_spec (r : EReal) (by exact_mod_cast h0) (by
    unfold pw; rw [if_neg (by omega), if_pos (by omega), EReal.coe_lt_coe_iff]; norm_num at hr ⊢; exact hr)
  have hs := scale_bits ⟨n, hn⟩
  have hi := inv_bits ⟨n, hn⟩
  simp only at hs hi
  rw [he, hs, hi]
  by_cases hz : n = 0
  · subst hz
    have : r < (2 : ℝ) ^ (-126 : ℤ) := by
      unfold pw at hhi; simp only [zero_add, one_ne_zero, if_false] at hhi
      rw [if_pos (by omega), EReal.coe_lt_coe_iff] at hhi
      exact_mod_cast hhi
    simp only [if_true]
    rw [ofBits_field _ (by omega)]
    unfold rscale pw
    rw [if_pos this]; norm_num
  · rw [if_neg hz, if_neg hz, ofBits_field _ (by omega), ofBits_field _ (by omega)]
    unfold pw at hlo hhi ⊢
    rw [if_neg (by omega), if_pos (by omega), EReal.coe_le_coe_iff] at hlo
    rw [if_neg (by omega), if_pos (by omega), EReal.coe_lt_coe_iff] at hhi
    rw [if_neg (by omega), if_pos (by omega), if_neg (by omega), if_pos (by omega)]
    have hnt : ¬ r < (2 : ℝ) ^ (-126 : ℤ) := by
      rw [not_lt]; refine le_trans ?_ hlo
      apply zpow_le_zpow_right₀ (by norm_num : (1 : ℝ) ≤ 2); omega
    rw [rscale_eq r ((n : ℤ) - 126) hnt (by convert hlo using 2; push_cast; ring) (by convert hhi using 2; push_cast; ring)]
    constructor
    · congr 2; push_cast; ring
    · rw [one_div, ← zpow_neg]; congr 2; rw [Nat.cast_sub (by omega)]; push_cast; ring

/-- The reference's scale: the least of the 253 powers above `y`. -/
theorem rfold (r : ℝ) (hr : r < (2 : ℝ) ^ (120 : ℤ)) (hlo : ¬ r < (2 : ℝ) ^ (-126 : ℤ)) :
    (Finset.univ : Finset (Fin 253)).fold min (⊤ : EReal)
      (fun x => if (r : EReal) < (((2 : ℝ) ^ ((x.val : ℤ) - 125) : ℝ) : EReal) then (((2 : ℝ) ^ ((x.val : ℤ) - 125) : ℝ) : EReal) else ⊤)
      = (rscale r : EReal) := by
  have hlo' := not_lt.mp hlo
  have hpos : 0 < r := lt_of_lt_of_le (by positivity) hlo'
  obtain ⟨k, h1, h2⟩ := exists_mem_Ico_zpow (y := (2 : ℝ)) hpos (by norm_num)
  have l1 : -126 < k + 1 := zlt (lt_of_le_of_lt hlo' h2)
  have l2 : k < 120 := zlt (lt_of_le_of_lt h1 hr)
  rw [rscale_eq r (k + 1) hlo (by simpa using h1) h2]
  apply le_antisymm
  · rw [Finset.fold_min_le]
    right
    refine ⟨⟨(k + 126).toNat, by omega⟩, Finset.mem_univ _, ?_⟩
    have e : ((((k + 126).toNat : ℕ) : ℤ) - 125) = k + 1 := by omega
    simp only [e]
    rw [if_pos (by rw [EReal.coe_lt_coe_iff]; exact h2)]
  · rw [Finset.le_fold_min]
    refine ⟨le_top, fun x _ => ?_⟩
    split_ifs with h
    · rw [EReal.coe_lt_coe_iff] at h
      rw [EReal.coe_le_coe_iff]
      apply zpow_le_zpow_right₀ (by norm_num : (1 : ℝ) ≤ 2)
      have := zlt (lt_of_le_of_lt h1 h)
      omega
    · exact le_top

end Cert.Mth
end
end
-- ==== Proof.Spec.lean ====
module

public import proofs.«01_k».proof.Proof.Math
public import proofs.«01_k».proof.Proof.Exps

@[expose] public section
noncomputable section

/-! What the results are, in terms of the inputs as real numbers. -/
namespace Cert.Mth
open Idealize.ShloMosaic

theorem coe_sum {ι : Type*} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

/-- The greatest magnitude of a row. -/
def amax (f : Fin 2432 → ℝ) : ℝ := Finset.univ.sup' ⟨0, Finset.mem_univ _⟩ fun d => |f d|

theorem fold_amax (f : Fin 2432 → ℝ) : (Finset.univ : Finset (Fin 2432)).fold max (⊥ : EReal) (fun d => max (f d : EReal) (-(f d : EReal))) = (amax f : EReal) := by
  have e : ∀ d, max (f d : EReal) (-(f d : EReal)) = ((|f d| : ℝ) : EReal) := fun d => by
    rw [← EReal.coe_neg, abs_eq_max_neg]; exact (EReal.coe_strictMono.monotone.map_max).symm
  simp only [e]
  apply le_antisymm
  · rw [Finset.fold_max_le]
    exact ⟨bot_le, fun d _ => EReal.coe_le_coe_iff.mpr (Finset.le_sup' (fun d => |f d|) (Finset.mem_univ d))⟩
  · obtain ⟨d, _, hd⟩ := Finset.exists_mem_eq_sup' (⟨0, Finset.mem_univ _⟩ : (Finset.univ : Finset (Fin 2432)).Nonempty) fun d => |f d|
    rw [Finset.le_fold_max]
    right
    exact ⟨d, Finset.mem_univ _, by unfold amax; rw [hd]⟩

theorem amax_nonneg (f : Fin 2432 → ℝ) : 0 ≤ amax f := (abs_nonneg (f 0)).trans (Finset.le_sup' (fun d => |f d|) (Finset.mem_univ 0))
theorem amax_le (f : Fin 2432 → ℝ) (B : ℝ) (h : ∀ d, |f d| ≤ B) : amax f ≤ B := Finset.sup'_le _ _ fun d _ => h d

/-- The number the row's scale is chosen for. -/
def rowY (f : Fin 2432 → ℝ) : ℝ := amax f * (1 / 57344)

theorem rowY_lt (f : Fin 2432 → ℝ) (h : ∀ d, |f d| ≤ 2 ^ 120) : rowY f < (2 : ℝ) ^ (120 : ℤ) := by
  have := amax_le f _ h
  unfold rowY; norm_num at *; linarith
theorem rowY_nonneg (f : Fin 2432 → ℝ) : 0 ≤ rowY f := mul_nonneg (amax_nonneg f) (by norm_num)

/-- The code of an entry: the entry over its row's scale, kept within the codes' range. -/
def code (s v : ℝ) : ℝ := min 57344 (max (-57344) (v * (1 / s)))

theorem code_coe (s v : ℝ) : min ((57344 : ℝ) : EReal) (max ((-57344 : ℝ) : EReal) ((v * (1 / s) : ℝ) : EReal)) = (code s v : EReal) := by
  unfold code
  rw [EReal.coe_strictMono.monotone.map_min, EReal.coe_strictMono.monotone.map_max]

/-- The inputs of `n` rows of both batches: the codes and scales of the row, of the gradient that passes through and of the
gradient of the modulated row, the modulation, and the entries that multiply the gate. -/
structure Data (n : ℕ) where
  x : Fin 2 → Fin n → Fin 2432 → ℝ
  y : Fin 2 → Fin n → Fin 2432 → ℝ
  h : Fin 2 → Fin n → Fin 2432 → ℝ
  sx : Fin 2 → Fin n → ℝ
  sy : Fin 2 → Fin n → ℝ
  sh : Fin 2 → Fin n → ℝ
  w : Fin 2 → Fin 2432 → ℝ
  f : Fin 2 → Fin n → Fin 2432 → EReal

namespace Data
variable {n : ℕ}

/-- The bounds on the inputs. -/
structure Good (D : Data n) : Prop where
  y : ∀ b s d, |D.y b s d| ≤ 57344
  h : ∀ b s d, |D.h b s d| ≤ 57344
  sy : ∀ b s, |D.sy b s| ≤ 2 ^ 40
  sh : ∀ b s, |D.sh b s| ≤ 2 ^ 40
  w : ∀ b d, |D.w b d| ≤ 2 ^ 40

def xh (D : Data n) (b : Fin 2) (s : Fin n) (d : Fin 2432) : ℝ := xhat eps (D.x b s) (D.sx b s) d

/-- The gradient of the residual stream before the quantiser. -/
def g (D : Data n) (b : Fin 2) (s : Fin n) (d : Fin 2432) : ℝ :=
  dx eps (D.x b s) (D.sx b s) (D.y b s) (D.sy b s) (D.h b s) (D.sh b s) (fun d => 1 + D.w b d) d

/-- A row's scale. -/
def scl (D : Data n) (b : Fin 2) (s : Fin n) : ℝ := rscale (rowY (D.g b s))

/-- An entry's code. -/
def cod (D : Data n) (b : Fin 2) (s : Fin n) (d : Fin 2432) : ℝ := code (D.scl b s) (D.g b s d)

/-- The gradients of shift, scale and gate over the rows. -/
def out (D : Data n) (b : Fin 2) (k : Fin 3) (d : Fin 2432) : EReal :=
  if k = 0 then ((∑ s, D.h b s d * D.sh b s : ℝ) : EReal)
  else if k = 1 then ((∑ s, (D.h b s d * D.sh b s) * D.xh b s d : ℝ) : EReal)
  else ∑ s, ((D.y b s d * D.sy b s : ℝ) : EReal) * D.f b s d

theorem Good.abs_g {D : Data n} (G : D.Good) (b : Fin 2) (s : Fin n) (d : Fin 2432) : |D.g b s d| ≤ 2 ^ 120 := by
  unfold g
  refine abs_dx_le eps (by have := eps_ge; norm_num at *; linarith) _ _ _ _ _ _ _ (G.y b s) (G.h b s) (G.sy b s) (G.sh b s) (fun d => ?_) d
  refine (abs_add_le _ _).trans ?_
  have := G.w b d
  norm_num at *; linarith

/-- The rows of one of the eight blocks. -/
def block (D : Data 1024) (t : Fin 8) : Data 128 where
  x b i := D.x b ⟨t.val * 128 + i.val, by omega⟩
  y b i := D.y b ⟨t.val * 128 + i.val, by omega⟩
  h b i := D.h b ⟨t.val * 128 + i.val, by omega⟩
  sx b i := D.sx b ⟨t.val * 128 + i.val, by omega⟩
  sy b i := D.sy b ⟨t.val * 128 + i.val, by omega⟩
  sh b i := D.sh b ⟨t.val * 128 + i.val, by omega⟩
  w := D.w
  f b i := D.f b ⟨t.val * 128 + i.val, by omega⟩

theorem Good.block {D : Data 1024} (G : D.Good) (t : Fin 8) : (D.block t).Good :=
  ⟨fun b _ d => G.y b _ d, fun b _ d => G.h b _ d, fun b _ => G.sy b _, fun b _ => G.sh b _, G.w⟩
end Data
end Cert.Mth
end
end
-- ==== Proof.Ker.lean ====
module

public import proofs.«01_k».proof.Proof.Gen.KernelIdeal.Skeleton
public import Idealize.ShloMosaic.Lib.Pointwise
public import Idealize.ShloMosaic.Lib.IdealHost
public import Idealize.ShloMosaic.Lib.Pipeline.ValueKit
public import Idealize.ShloMosaic.Lib.Pipeline.ReadBack
public import proofs.«01_k».proof.Proof.Math
public import proofs.«01_k».proof.Proof.Spec

@[expose] public section
set_option maxRecDepth 16384
noncomputable section

/-! The kernel's tiles of one batch at an index, as real numbers. -/
namespace Cert.Ker
open Cert.KernelIdeal Cert.KernelIdeal.Gen Idealize.ShloMosaic
open Cert.Mth

/-- The row of an entry of the tile stored `n`-th. -/
def rw (n : ℕ) (hn : n < 76) (i : Fin 32) : Fin 128 := ⟨32 * (n / 19) + i.val, by omega⟩
/-- Its column. -/
def cl (n : ℕ) (j : Fin 128) : Fin 2432 := ⟨128 * (n % 19) + j.val, by omega⟩

theorem inbT (b n : ℕ) (hb : b < 2) (hn : n < 76) : ∀ a, (![b, 32 * (n / 19), 128 * (n % 19)] : Fin 3 → ℕ) a + S1x32x128.size a ≤ S2x128x2432.size a := by
  intro a; fin_cases a
  · show b + 1 ≤ 2; omega
  · show 32 * (n / 19) + 32 ≤ 128; omega
  · show 128 * (n % 19) + 128 ≤ 2432; omega

/-- A tile of an operand. -/
def ldT {e : EltTy} (m : Memref sig .tc .vmem S2x128x2432 e) (hm : m.IsWhole) (X : Vec Ideal S2x128x2432 e) (b n : ℕ) (hb : b < 2) (hn : n < 76) : Vec Ideal S1x32x128 e :=
  View.readAt (Elt Ideal) m.view (Rect.unit (s := S2x128x2432) ![b, 32 * (n / 19), 128 * (n % 19)] S1x32x128.size (inbT b n hb hn)).toLoadRect (hm.unread X)

theorem ldT_at {e : EltTy} (m : Memref sig .tc .vmem S2x128x2432 e) (hm : m.IsWhole) (X : Vec Ideal S2x128x2432 e) (b n : ℕ) (hb : b < 2) (hn : n < 76) (i : Fin 32) (j : Fin 128) :
    ldT m hm X b n hb hn (ix3 0 i j) = X (ix3 ⟨b, hb⟩ (rw n hn i) (cl n j)) := by
  unfold ldT
  rw [View.readAt_apply, hm.read_unread]
  refine congrArg X (funext fun a => Fin.ext ?_)
  fin_cases a
  · show b + 1 * 0 = b; omega
  · show 32 * (n / 19) + 1 * i.val = 32 * (n / 19) + i.val; omega
  · show 128 * (n % 19) + 1 * j.val = 128 * (n % 19) + j.val; omega

theorem inbW (b n : ℕ) (hb : b < 2) : ∀ a, (![b, 128 * (n % 19)] : Fin 2 → ℕ) a + S1x128.size a ≤ S2x2432.size a := by
  intro a; fin_cases a
  · show b + 1 ≤ 2; omega
  · show 128 * (n % 19) + 128 ≤ 2432; omega

/-- A tile's columns of the modulation. -/
def ldW (m : Memref sig .tc .vmem S2x2432 .f32) (hm : m.IsWhole) (X : Vec Ideal S2x2432 .f32) (b n : ℕ) (hb : b < 2) : Vec Ideal S1x128 .f32 :=
  View.readAt (Elt Ideal) m.view (Rect.unit (s := S2x2432) ![b, 128 * (n % 19)] S1x128.size (inbW b n hb)).toLoadRect (hm.unread X)

theorem ldW_at (m : Memref sig .tc .vmem S2x2432 .f32) (hm : m.IsWhole) (X : Vec Ideal S2x2432 .f32) (b n : ℕ) (hb : b < 2) (j : Fin 128) :
    ldW m hm X b n hb (ix2 0 j) = X (ix2 ⟨b, hb⟩ (cl n j)) := by
  unfold ldW
  rw [View.readAt_apply, hm.read_unread]
  refine congrArg X (funext fun a => Fin.ext ?_)
  fin_cases a
  · show b + 1 * 0 = b; omega
  · show 128 * (n % 19) + 1 * j.val = 128 * (n % 19) + j.val; omega

theorem inbR (b : ℕ) (hb : b < 2) : ∀ a, (![b, 0] : Fin 2 → ℕ) a + S1x128.size a ≤ S2x128.size a := by
  intro a; fin_cases a
  · show b + 1 ≤ 2; omega
  · show 0 + 128 ≤ 128; omega

/-- A batch's scales. -/
def ldR (m : Memref sig .tc .vmem S2x128 .f32) (hm : m.IsWhole) (X : Vec Ideal S2x128 .f32) (b : ℕ) (hb : b < 2) : Vec Ideal S1x128 .f32 :=
  View.readAt (Elt Ideal) m.view (Rect.unit (s := S2x128) ![b, 0] S1x128.size (inbR b hb)).toLoadRect (hm.unread X)

theorem ldR_at (m : Memref sig .tc .vmem S2x128 .f32) (hm : m.IsWhole) (X : Vec Ideal S2x128 .f32) (b : ℕ) (hb : b < 2) (j : Fin 128) :
    ldR m hm X b hb (ix2 0 j) = X (ix2 ⟨b, hb⟩ j) := by
  unfold ldR
  rw [View.readAt_apply, hm.read_unread]
  refine congrArg X (funext fun a => Fin.ext ?_)
  fin_cases a
  · show b + 1 * 0 = b; omega
  · show 0 + 1 * j.val = j.val; omega

theorem inbF (b : ℕ) (hb : b < 2) : ∀ a, (![b, 0, 0] : Fin 3 → ℕ) a + S1x128x2432.size a ≤ S2x128x2432.size a := by
  intro a; fin_cases a
  · show b + 1 ≤ 2; omega
  · show 0 + 128 ≤ 128; omega
  · show 0 + 2432 ≤ 2432; omega

/-- A batch of an operand. -/
def ldF {e : EltTy} (m : Memref sig .tc .vmem S2x128x2432 e) (hm : m.IsWhole) (X : Vec Ideal S2x128x2432 e) (b : ℕ) (hb : b < 2) : Vec Ideal S1x128x2432 e :=
  View.readAt (Elt Ideal) m.view (Rect.unit (s := S2x128x2432) ![b, 0, 0] S1x128x2432.size (inbF b hb)).toLoadRect (hm.unread X)

theorem ldF_at {e : EltTy} (m : Memref sig .tc .vmem S2x128x2432 e) (hm : m.IsWhole) (X : Vec Ideal S2x128x2432 e) (b : ℕ) (hb : b < 2) (i : Fin 128) (j : Fin 2432) :
    ldF m hm X b hb (ix3 0 i j) = X (ix3 ⟨b, hb⟩ i j) := by
  unfold ldF
  rw [View.readAt_apply, hm.read_unread]
  refine congrArg X (funext fun a => Fin.ext ?_)
  fin_cases a
  · show b + 1 * 0 = b; omega
  · show 0 + 1 * i.val = i.val; omega
  · show 0 + 1 * j.val = j.val; omega

theorem inbV (b : ℕ) (hb : b < 2) : ∀ a, (![b, 0] : Fin 2 → ℕ) a + S1x2432.size a ≤ S2x2432.size a := by
  intro a; fin_cases a
  · show b + 1 ≤ 2; omega
  · show 0 + 2432 ≤ 2432; omega

/-- A batch's modulation. -/
def ldV (m : Memref sig .tc .vmem S2x2432 .f32) (hm : m.IsWhole) (X : Vec Ideal S2x2432 .f32) (b : ℕ) (hb : b < 2) : Vec Ideal S1x2432 .f32 :=
  View.readAt (Elt Ideal) m.view (Rect.unit (s := S2x2432) ![b, 0] S1x2432.size (inbV b hb)).toLoadRect (hm.unread X)

theorem ldV_at (m : Memref sig .tc .vmem S2x2432 .f32) (hm : m.IsWhole) (X : Vec Ideal S2x2432 .f32) (b : ℕ) (hb : b < 2) (j : Fin 2432) :
    ldV m hm X b hb (ix2 0 j) = X (ix2 ⟨b, hb⟩ j) := by
  unfold ldV
  rw [View.readAt_apply, hm.read_unread]
  refine congrArg X (funext fun a => Fin.ext ?_)
  fin_cases a
  · show b + 1 * 0 = b; omega
  · show 0 + 1 * j.val = j.val; omega

/-! ## Stores in order -/

/-- The first `n` of the tiles, in the order `rank`, hold `G`. -/
def Cov {s : Shape} {e : EltTy} (rank : s.Idx → ℕ) (G : s.Idx → Elt Ideal e) (n : ℕ) (L : List (View.Piece (Elt Ideal) s e)) : Prop :=
  ∀ y, rank y < n → View.canon L y = G y

theorem Cov.zero {s : Shape} {e : EltTy} (rank : s.Idx → ℕ) (G : s.Idx → Elt Ideal e) (L : List (View.Piece (Elt Ideal) s e)) : Cov rank G 0 L :=
  fun _ h => absurd h (Nat.not_lt_zero _)

theorem Cov.step {s : Shape} {e : EltTy} {rank : s.Idx → ℕ} {G : s.Idx → Elt Ideal e} {n : ℕ} {L : List (View.Piece (Elt Ideal) s e)} (r : Rect s)
    (w : r.shape.Idx → Elt Ideal e) (h1 : ∀ x, w x = G (r.emb x)) (h2 : ∀ y, rank y = n → y ∈ r.set) (h : Cov rank G n L) :
    Cov rank G (n + 1) ((⟨r, w⟩ : View.Piece (Elt Ideal) s e) :: L) := by
  intro y hy
  by_cases hm : y ∈ r.set
  · obtain ⟨x, rfl⟩ := r.exists_idx_of_mem hm
    exact (View.canon_cons_emb r w L x).trans (h1 x)
  · rw [View.canon_cons_of_not_mem _ _ hm]
    refine h y (lt_of_le_of_ne (Nat.le_of_lt_succ hy) fun e => hm (h2 y e))

/-- The order in which the tiles of a matrix are stored. -/
def rk (y : S128x2432.Idx) : ℕ := 19 * ((y 0).val / 32) + (y 1).val / 128

theorem inbS (n : ℕ) (hn : n < 76) : ∀ a, (![32 * (n / 19), 128 * (n % 19)] : Fin 2 → ℕ) a + S32x128.size a ≤ S128x2432.size a := by
  intro a; fin_cases a
  · show 32 * (n / 19) + 32 ≤ 128; omega
  · show 128 * (n % 19) + 128 ≤ 2432; omega

theorem emb_tile (n : ℕ) (hn : n < 76) (i : Fin 32) (j : Fin 128) :
    (Rect.unit (s := S128x2432) ![32 * (n / 19), 128 * (n % 19)] S32x128.size (inbS n hn)).emb (ix2 i j) = (ix2 (rw n hn i) (cl n j) : S128x2432.Idx) := by
  funext a; apply Fin.ext
  fin_cases a
  · show 32 * (n / 19) + 1 * i.val = 32 * (n / 19) + i.val; omega
  · show 128 * (n % 19) + 1 * j.val = 128 * (n % 19) + j.val; omega

theorem Cov.tile {e : EltTy} {G : Vec Ideal S128x2432 e} (n : ℕ) (hn : n < 76) {L : List (View.Piece (Elt Ideal) S128x2432 e)} (w : Vec Ideal S32x128 e)
    (hw : ∀ i j, w (ix2 i j) = G (ix2 (rw n hn i) (cl n j))) (h : Cov rk G n L) :
    Cov rk G (n + 1) ((⟨Rect.unit (s := S128x2432) ![32 * (n / 19), 128 * (n % 19)] S32x128.size (inbS n hn), w⟩ : View.Piece (Elt Ideal) S128x2432 e) :: L) := by
  refine Cov.step _ _ (fun x => ?_) (fun y hy => ?_) h
  · have hx : x = ix2 (x 0) (x 1) := by funext a; fin_cases a <;> rfl
    rw [hx]; exact (hw _ _).trans (congrArg G (emb_tile n hn _ _).symm)
  · rw [Rect.mem_set_unit]
    unfold rk at hy
    have h0 : (y 0).val < 128 := (y 0).isLt
    have h1 : (y 1).val < 2432 := (y 1).isLt
    intro a; fin_cases a
    · show 32 * (n / 19) ≤ (y 0).val ∧ (y 0).val < 32 * (n / 19) + 32; omega
    · show 128 * (n % 19) ≤ (y 1).val ∧ (y 1).val < 128 * (n % 19) + 128; omega

theorem Cov.all {e : EltTy} {G : Vec Ideal S128x2432 e} {L : List (View.Piece (Elt Ideal) S128x2432 e)} (h : Cov rk G 76 L) (y : S128x2432.Idx) : View.canon L y = G y := by
  refine h y ?_
  have h0 : (y 0).val < 128 := (y 0).isLt
  have h1 : (y 1).val < 2432 := (y 1).isLt
  unfold rk; omega

theorem rw_cl (s : Fin 128) (d : Fin 2432) : ∃ (n : ℕ) (hn : n < 76) (i : Fin 32) (j : Fin 128), s = rw n hn i ∧ d = cl n j := by
  refine ⟨19 * (s.val / 32) + d.val / 128, by omega, ⟨s.val % 32, by omega⟩, ⟨d.val % 128, by omega⟩, Fin.ext ?_, Fin.ext ?_⟩
  · show s.val = 32 * ((19 * (s.val / 32) + d.val / 128) / 19) + s.val % 32; omega
  · show d.val = 128 * ((19 * (s.val / 32) + d.val / 128) % 19) + d.val % 128; omega

/-! ## A block's operands -/

/-- The operands of a block hold its data. -/
structure Holds (D : Data 128) (x0 : Vec Ideal S2x128x2432 .fp8e4m3) (x1 : Vec Ideal S2x128 .f32) (x2 : Vec Ideal S2x128x2432 .bf16)
    (x3 : Vec Ideal S2x128x2432 .fp8e5m2) (x4 : Vec Ideal S2x128 .f32) (x5 : Vec Ideal S2x128x2432 .fp8e5m2) (x6 : Vec Ideal S2x128 .f32)
    (x7 : Vec Ideal S2x2432 .f32) : Prop where
  x : ∀ b s d, @Eq EReal (x0 (ix3 b s d)) (D.x b s d)
  sx : ∀ b s, @Eq EReal (x1 (ix2 b s)) (D.sx b s)
  f : ∀ b s d, @Eq EReal (x2 (ix3 b s d)) (D.f b s d)
  y : ∀ b s d, @Eq EReal (x3 (ix3 b s d)) (D.y b s d)
  sy : ∀ b s, @Eq EReal (x4 (ix2 b s)) (D.sy b s)
  h : ∀ b s d, @Eq EReal (x5 (ix3 b s d)) (D.h b s d)
  sh : ∀ b s, @Eq EReal (x6 (ix2 b s)) (D.sh b s)
  w : ∀ b d, @Eq EReal (x7 (ix2 b d)) (D.w b d)

variable {D : Data 128} {x0 : Vec Ideal S2x128x2432 .fp8e4m3} {x1 : Vec Ideal S2x128 .f32} {x2 : Vec Ideal S2x128x2432 .bf16}
    {x3 : Vec Ideal S2x128x2432 .fp8e5m2} {x4 : Vec Ideal S2x128 .f32} {x5 : Vec Ideal S2x128x2432 .fp8e5m2} {x6 : Vec Ideal S2x128 .f32}
    {x7 : Vec Ideal S2x2432 .f32}
  {m1 : Memref sig .tc .vmem S2x128x2432 .fp8e4m3} {g1 : m1.IsWhole} {m2 : Memref sig .tc .vmem S2x128 .f32} {g2 : m2.IsWhole}
  {m3 : Memref sig .tc .vmem S2x128x2432 .bf16} {g3 : m3.IsWhole} {m4 : Memref sig .tc .vmem S2x128x2432 .fp8e5m2} {g4 : m4.IsWhole}
  {m5 : Memref sig .tc .vmem S2x128 .f32} {g5 : m5.IsWhole} {m6 : Memref sig .tc .vmem S2x128x2432 .fp8e5m2} {g6 : m6.IsWhole}
  {m7 : Memref sig .tc .vmem S2x128 .f32} {g7 : m7.IsWhole} {m8 : Memref sig .tc .vmem S2x2432 .f32} {g8 : m8.IsWhole}

/-- The products of a tile's codes. -/
def Pt (m1 : Memref sig .tc .vmem S2x128x2432 .fp8e4m3) (g1 : m1.IsWhole) (m6 : Memref sig .tc .vmem S2x128x2432 .fp8e5m2) (g6 : m6.IsWhole)
    (x0 : Vec Ideal S2x128x2432 .fp8e4m3) (x5 : Vec Ideal S2x128x2432 .fp8e5m2) (b n : ℕ) (hb : b < 2) (hn : n < 76) : FVec Ideal S32x128 .bf16 :=
  mulf (extf .bf16 (shapeCast S32x128 (ldT m1 g1 x0 b n hb hn) (by decide) : FVec Ideal S32x128 .fp8e4m3)) (extf .bf16 (shapeCast S32x128 (ldT m6 g6 x5 b n hb hn) (by decide) : FVec Ideal S32x128 .fp8e5m2))

/-- The squares of a tile's codes. -/
def Qt (m1 : Memref sig .tc .vmem S2x128x2432 .fp8e4m3) (g1 : m1.IsWhole) (x0 : Vec Ideal S2x128x2432 .fp8e4m3) (b n : ℕ) (hb : b < 2) (hn : n < 76) : FVec Ideal S32x128 .bf16 :=
  mulf (extf .bf16 (shapeCast S32x128 (ldT m1 g1 x0 b n hb hn) (by decide) : FVec Ideal S32x128 .fp8e4m3)) (extf .bf16 (shapeCast S32x128 (ldT m1 g1 x0 b n hb hn) (by decide) : FVec Ideal S32x128 .fp8e4m3))

/-- The products of a batch's codes. -/
def Pm (D : Data 128) (b : Fin 2) : Vec Ideal S128x2432 .bf16 := fun y => ((D.x b (y 0) (y 1) * D.h b (y 0) (y 1) : ℝ) : EReal)
/-- The squares. -/
def Qm (D : Data 128) (b : Fin 2) : Vec Ideal S128x2432 .bf16 := fun y => ((D.x b (y 0) (y 1) * D.x b (y 0) (y 1) : ℝ) : EReal)
/-- The gradients before the quantiser. -/
def Vm (D : Data 128) (b : Fin 2) : Vec Ideal S128x2432 .f32 := fun y => ((D.g b (y 0) (y 1) : ℝ) : EReal)

theorem Pt_at (H : Holds D x0 x1 x2 x3 x4 x5 x6 x7) (b n : ℕ) (hb : b < 2) (hn : n < 76) (i : Fin 32) (j : Fin 128) :
    (shapeCast S32x128 (Pt m1 g1 m6 g6 x0 x5 b n hb hn) (by decide) : FVec Ideal S32x128 .bf16) (ix2 i j) = Pm D ⟨b, hb⟩ (ix2 (rw n hn i) (cl n j)) := by
  have : @Eq EReal ((shapeCast S32x128 (Pt m1 g1 m6 g6 x0 x5 b n hb hn) (by decide) : FVec Ideal S32x128 .bf16) (ix2 i j)) (ldT m1 g1 x0 b n hb hn (ix3 0 i j) * ldT m6 g6 x5 b n hb hn (ix3 0 i j)) := by
    pointwise [Pt]
  refine this.trans ?_
  rw [ldT_at, ldT_at, H.x, H.h, ← EReal.coe_mul]; rfl

theorem Qt_at (H : Holds D x0 x1 x2 x3 x4 x5 x6 x7) (b n : ℕ) (hb : b < 2) (hn : n < 76) (i : Fin 32) (j : Fin 128) :
    (shapeCast S32x128 (Qt m1 g1 x0 b n hb hn) (by decide) : FVec Ideal S32x128 .bf16) (ix2 i j) = Qm D ⟨b, hb⟩ (ix2 (rw n hn i) (cl n j)) := by
  have : @Eq EReal ((shapeCast S32x128 (Qt m1 g1 x0 b n hb hn) (by decide) : FVec Ideal S32x128 .bf16) (ix2 i j)) (ldT m1 g1 x0 b n hb hn (ix3 0 i j) * ldT m1 g1 x0 b n hb hn (ix3 0 i j)) := by
    pointwise [Qt]
  refine this.trans ?_
  rw [ldT_at, H.x, ← EReal.coe_mul]; rfl

theorem slC (n : ℕ) (hn : n < 76) : S128x128.Slices ![32 * (n / 19), 0] S32x128 := by
  refine ⟨rfl, fun a => ?_⟩
  fin_cases a
  · show 32 * (n / 19) + 32 ≤ 128; omega
  · show 0 + 128 ≤ 128; omega

/-- A tile's rows of a column repeated. -/
def cs (n : ℕ) (hn : n < 76) (c : FVec Ideal S128x128 .f32) : FVec Ideal S32x128 .f32 := extractStridedSlice S32x128 ![32 * (n / 19), 0] c (slC n hn)

theorem cs_at (n : ℕ) (hn : n < 76) (c : FVec Ideal S128x128 .f32) (i : Fin 32) (j : Fin 128) : cs n hn c (ix2 i j) = c (ix2 (rw n hn i) j) := by
  refine congrArg c (funext fun a => Fin.ext ?_)
  fin_cases a
  · rfl
  · show 0 + j.val = j.val; omega

/-- A tile of the gradient that passes through, scaled. -/
def Yt (m4 : Memref sig .tc .vmem S2x128x2432 .fp8e5m2) (g4 : m4.IsWhole) (x3 : Vec Ideal S2x128x2432 .fp8e5m2) (cy : FVec Ideal S128x128 .f32) (b n : ℕ) (hb : b < 2) (hn : n < 76) :
    FVec Ideal S32x128 .f32 :=
  mulf (extf .f32 (shapeCast S32x128 (ldT m4 g4 x3 b n hb hn) (by decide) : FVec Ideal S32x128 .fp8e5m2)) (cs n hn cy)

/-- A tile of one plus the modulation, times the codes. -/
def Gt (m6 : Memref sig .tc .vmem S2x128x2432 .fp8e5m2) (g6 : m6.IsWhole) (m8 : Memref sig .tc .vmem S2x2432 .f32) (g8 : m8.IsWhole)
    (x5 : Vec Ideal S2x128x2432 .fp8e5m2) (x7 : Vec Ideal S2x2432 .f32) (b n : ℕ) (hb : b < 2) (hn : n < 76) : FVec Ideal S32x128 .f32 :=
  mulf (extf .f32 (shapeCast S32x128 (ldT m6 g6 x5 b n hb hn) (by decide) : FVec Ideal S32x128 .fp8e5m2))
    (broadcastTo S32x128 (addf (broadcast S1x128 (Scalar.ofBits .f32 0x3F800000#32)) (ldW m8 g8 x7 b n hb) : FVec Ideal S1x128 .f32) (by decide))

/-- A tile of the gradient before the quantiser. -/
def Vt (m1 : Memref sig .tc .vmem S2x128x2432 .fp8e4m3) (g1 : m1.IsWhole) (m4 : Memref sig .tc .vmem S2x128x2432 .fp8e5m2) (g4 : m4.IsWhole)
    (m6 : Memref sig .tc .vmem S2x128x2432 .fp8e5m2) (g6 : m6.IsWhole) (m8 : Memref sig .tc .vmem S2x2432 .f32) (g8 : m8.IsWhole)
    (x0 : Vec Ideal S2x128x2432 .fp8e4m3) (x3 x5 : Vec Ideal S2x128x2432 .fp8e5m2) (x7 : Vec Ideal S2x2432 .f32)
    (cy ca cb ck : FVec Ideal S128x128 .f32) (b n : ℕ) (hb : b < 2) (hn : n < 76) : FVec Ideal S32x128 .f32 :=
  addf (addf (Yt m4 g4 x3 cy b n hb hn) (mulf (cs n hn ca) (Gt m6 g6 m8 g8 x5 x7 b n hb hn)))
    (subf (cs n hn ck) (mulf (cs n hn cb) (extf .f32 (shapeCast S32x128 (ldT m1 g1 x0 b n hb hn) (by decide) : FVec Ideal S32x128 .fp8e4m3))))

theorem Yt_at (H : Holds D x0 x1 x2 x3 x4 x5 x6 x7) {cy : FVec Ideal S128x128 .f32} (b n : ℕ) (hb : b < 2) (hn : n < 76)
    (hy : ∀ s j, @Eq EReal (cy (ix2 s j)) (D.sy ⟨b, hb⟩ s)) (i : Fin 32) (j : Fin 128) :
    @Eq EReal (Yt m4 g4 x3 cy b n hb hn (ix2 i j)) ((D.y ⟨b, hb⟩ (rw n hn i) (cl n j) * D.sy ⟨b, hb⟩ (rw n hn i) : ℝ) : EReal) := by
  have : @Eq EReal (Yt m4 g4 x3 cy b n hb hn (ix2 i j)) (ldT m4 g4 x3 b n hb hn (ix3 0 i j) * cs n hn cy (ix2 i j)) := by
    pointwise [Yt]
  rw [this, ldT_at, cs_at, H.y, hy, ← EReal.coe_mul]

theorem Gt_at (H : Holds D x0 x1 x2 x3 x4 x5 x6 x7) (b n : ℕ) (hb : b < 2) (hn : n < 76) (i : Fin 32) (j : Fin 128) :
    @Eq EReal (Gt m6 g6 m8 g8 x5 x7 b n hb hn (ix2 i j)) ((D.h ⟨b, hb⟩ (rw n hn i) (cl n j) * (1 + D.w ⟨b, hb⟩ (cl n j)) : ℝ) : EReal) := by
  have : @Eq EReal (Gt m6 g6 m8 g8 x5 x7 b n hb hn (ix2 i j)) (ldT m6 g6 x5 b n hb hn (ix3 0 i j) * (Ideal.ofBits .f32 0x3F800000#32 + ldW m8 g8 x7 b n hb (ix2 0 j))) := by
    pointwise [Gt]
  rw [this, ldT_at, ldW_at, H.h, H.w, Ideal.ofBits_one_f32, ← EReal.coe_one, ← EReal.coe_add, ← EReal.coe_mul]

end Cert.Ker
end
-- ==== Proof.Ker3.lean ====
module

public import proofs.«01_k».proof.Proof.Ker
public import proofs.«01_k».proof.Proof.Exps

@[expose] public section
set_option maxRecDepth 16384
noncomputable section

/-! The kernel's row statistics, as real numbers. -/
namespace Cert.Ker
open Cert.KernelIdeal Cert.KernelIdeal.Gen Idealize.ShloMosaic
open Cert.Mth

/-- A row of the batch's scales holds these numbers. -/
def Is (v : FVec Ideal S1x128 .f32) (f : Fin 128 → ℝ) : Prop := ∀ s, @Eq EReal (v (ix2 0 s)) (f s)

def kinv : FVec Ideal S1x128 .f32 := broadcast S1x128 (Named.named κ "inv_d" 0x39D79436#32)
def kinv2 : FVec Ideal S1x128 .f32 := broadcast S1x128 (Named.named κ "inv_d2" 0x34358A48#32)
def kD : FVec Ideal S1x128 .f32 := broadcast S1x128 (Scalar.ofBits .f32 0x45180000#32)
def k4097 : FVec Ideal S1x128 .f32 := broadcast S1x128 (Scalar.ofBits .f32 0x45800800#32)
def keps : FVec Ideal S1x128 .f32 := broadcast S1x128 (Scalar.ofBits .f32 0x358637BD#32)
def kzero : FVec Ideal S1x128 .f32 := broadcast S1x128 (Scalar.ofBits .f32 0x00000000#32)

theorem kinv_is : Is kinv fun _ => 1 / 2432 := fun _ => IdealRules.named_const.ideal_named_scalar κ "inv_d" (φ := .f32) 0x39D79436#32 _ rfl
theorem kinv2_is : Is kinv2 fun _ => 1 / 5914624 := fun _ => IdealRules.named_const.ideal_named_scalar κ "inv_d2" (φ := .f32) 0x34358A48#32 _ rfl
theorem kD_is : Is kD fun _ => 2432 := fun _ => ofBits_2432
theorem k4097_is : Is k4097 fun _ => 4097 := fun _ => ofBits_4097
theorem keps_is : Is keps fun _ => eps := fun _ => ofBits_eps

section ops
variable {u v : FVec Ideal S1x128 .f32} {f g : Fin 128 → ℝ}
theorem Is.mul (hu : Is u f) (hv : Is v g) : Is (mulf u v) fun s => f s * g s := fun s => by
  show (u (ix2 0 s) : EReal) * v (ix2 0 s) = _
  rw [hu s, hv s, ← EReal.coe_mul]
theorem Is.add (hu : Is u f) (hv : Is v g) : Is (addf u v) fun s => f s + g s := fun s => by
  show (u (ix2 0 s) : EReal) + v (ix2 0 s) = _
  rw [hu s, hv s, ← EReal.coe_add]
theorem Is.sub (hu : Is u f) (hv : Is v g) : Is (subf u v) fun s => f s - g s := fun s => by
  show (u (ix2 0 s) : EReal) - v (ix2 0 s) = _
  rw [hu s, hv s, ← EReal.coe_sub]
theorem Is.of (hu : Is u f) (h : ∀ s, f s = g s) : Is u g := fun s => (hu s).trans (congrArg _ (h s))
end ops

def khi (v : FVec Ideal S1x128 .f32) : FVec Ideal S1x128 .f32 := subf (mulf v k4097) (subf (mulf v k4097) v)
def klo (v : FVec Ideal S1x128 .f32) : FVec Ideal S1x128 .f32 := subf v (khi v)
/-- The rounding error of a product, which is zero in the reals. -/
def ktp (a b : FVec Ideal S1x128 .f32) : FVec Ideal S1x128 .f32 :=
  addf (addf (addf (subf (mulf (khi a) (khi b)) (mulf a b)) (mulf (khi a) (klo b))) (mulf (klo a) (khi b))) (mulf (klo a) (klo b))
def kvar (q s : FVec Ideal S1x128 .f32) : FVec Ideal S1x128 .f32 :=
  maximumf (mulf (addf (subf (mulf q kD) (mulf s s)) (subf (ktp q kD) (ktp s s))) kinv2) kzero
def krstd (q s sx : FVec Ideal S1x128 .f32) : FVec Ideal S1x128 .f32 := rsqrt (addf (mulf (mulf (kvar q s) sx) sx) keps)

theorem khi_is {v : FVec Ideal S1x128 .f32} {f : Fin 128 → ℝ} (h : Is v f) : Is (khi v) f :=
  ((h.mul k4097_is).sub ((h.mul k4097_is).sub h)).of fun s => by ring
theorem klo_is {v : FVec Ideal S1x128 .f32} {f : Fin 128 → ℝ} (h : Is v f) : Is (klo v) fun _ => 0 :=
  (h.sub (khi_is h)).of fun s => by ring
theorem ktp_is {u v : FVec Ideal S1x128 .f32} {f g : Fin 128 → ℝ} (hu : Is u f) (hv : Is v g) : Is (ktp u v) fun _ => 0 :=
  ((((((khi_is hu).mul (khi_is hv)).sub (hu.mul hv)).add ((khi_is hu).mul (klo_is hv))).add ((klo_is hu).mul (khi_is hv))).add ((klo_is hu).mul (klo_is hv))).of fun s => by ring

theorem kvar_is {q s : FVec Ideal S1x128 .f32} {x : Fin 128 → Fin 2432 → ℝ} (hq : Is q fun i => ∑ d, x i d * x i d) (hs : Is s fun i => ∑ d, x i d) :
    Is (kvar q s) fun i => var (x i) := fun i => by
  have h := (((((hq.mul kD_is).sub (hs.mul hs)).add ((ktp_is hq kD_is).sub (ktp_is hs hs))).mul kinv2_is).of (g := fun i => var (x i)) fun i => by
    rw [← var_eq]; ring) i
  have hz : @Eq EReal (kzero (ix2 0 i)) 0 := Ideal.ofBits_zero_f32
  show max (_ : EReal) (kzero (ix2 0 i)) = _
  rw [hz]
  refine (congrArg (fun z : EReal => max z 0) h).trans ?_
  exact max_eq_left (by exact_mod_cast var_nonneg (x i))

theorem krstd_is {q s sx : FVec Ideal S1x128 .f32} {x : Fin 128 → Fin 2432 → ℝ} {f : Fin 128 → ℝ} (hq : Is q fun i => ∑ d, x i d * x i d) (hs : Is s fun i => ∑ d, x i d)
    (hx : Is sx f) : Is (krstd q s sx) fun i => rstd eps (x i) (f i) := fun i => by
  have h := ((((kvar_is hq hs).mul hx).mul hx).add keps_is) i
  show Ideal.rsqrt (_ : EReal) = _
  refine (congrArg Ideal.rsqrt h).trans ?_
  have hp : 0 < var (x i) * f i * f i + eps := by nlinarith [mul_nonneg (var_nonneg (x i)) (mul_self_nonneg (f i)), eps_pos]
  rw [Ideal.rsqrt_coe, if_neg (not_lt.mpr hp.le), if_neg hp.ne']
  rfl

/-! ## Row sums -/
/-- The products of sixteen rows with the rows of a matrix. -/
def RD {φ : FTy} (A : FVec Ideal S16x2432 .bf16) (B : FVec Ideal S128x2432 φ) : FVec Ideal S16x128 .f32 :=
  matmul dot_S16x2432_S128x2432_S16x128_1_1_0_0_n_n none A B (constant S16x128 .f32 0x00000000#32)

theorem RD_at {φ : FTy} (A : FVec Ideal S16x2432 .bf16) (B : FVec Ideal S128x2432 φ) (k : Fin 16) (s : Fin 128) :
    @Eq EReal (RD A B (ix2 k s)) (∑ d, (A (ix2 k d) : EReal) * B (ix2 s d)) := by
  pointwise [RD]

def row0 (R : FVec Ideal S16x128 .f32) : FVec Ideal S1x128 .f32 := extractStridedSlice S1x128 ![0, 0] R (by decide)
def row1 (R : FVec Ideal S16x128 .f32) : FVec Ideal S1x128 .f32 := extractStridedSlice S1x128 ![1, 0] R (by decide)
def row2 (R : FVec Ideal S16x128 .f32) : FVec Ideal S1x128 .f32 := extractStridedSlice S1x128 ![2, 0] R (by decide)
def row3 (R : FVec Ideal S16x128 .f32) : FVec Ideal S1x128 .f32 := extractStridedSlice S1x128 ![3, 0] R (by decide)
def wsum (R : FVec Ideal S16x128 .f32) : FVec Ideal S1x128 .f32 := addf (addf (row3 R) (row2 R)) (row1 R)

/-- The sixteen rows: ones, one plus the modulation, and what is left of it, which is zero in the reals. -/
structure Wok (A : FVec Ideal S16x2432 .bf16) (w : Fin 2432 → ℝ) : Prop where
  h0 : ∀ d, @Eq EReal (A (ix2 0 d)) ((1 : ℝ) : EReal)
  h1 : ∀ d, @Eq EReal (A (ix2 1 d)) ((1 + w d : ℝ) : EReal)
  h2 : ∀ d, @Eq EReal (A (ix2 2 d)) ((0 : ℝ) : EReal)
  h3 : ∀ d, @Eq EReal (A (ix2 3 d)) ((0 : ℝ) : EReal)

section sums
variable {φ : FTy} {A : FVec Ideal S16x2432 .bf16} {B : FVec Ideal S128x2432 φ} {w : Fin 2432 → ℝ} {f : Fin 128 → Fin 2432 → ℝ}
theorem dot_is (k : Fin 16) (a : Fin 2432 → ℝ) (hA : ∀ d, @Eq EReal (A (ix2 k d)) (a d)) (hB : ∀ s d, @Eq EReal (B (ix2 s d)) (f s d)) (s : Fin 128) :
    @Eq EReal (RD A B (ix2 k s)) ((∑ d, a d * f s d : ℝ) : EReal) := by
  rw [RD_at]
  simp only [hA, hB, ← EReal.coe_mul, coe_sum]

theorem row0_is (hA : Wok A w) (hB : ∀ s d, @Eq EReal (B (ix2 s d)) (f s d)) : Is (row0 (RD A B)) fun s => ∑ d, f s d := fun s => by
  have : @Eq EReal (row0 (RD A B) (ix2 0 s)) (RD A B (ix2 0 s)) := by pointwise [row0]
  rw [this, dot_is 0 _ hA.h0 hB]; simp only [one_mul]
theorem wsum_is (hA : Wok A w) (hB : ∀ s d, @Eq EReal (B (ix2 s d)) (f s d)) : Is (wsum (RD A B)) fun s => ∑ d, (1 + w d) * f s d := fun s => by
  have : @Eq EReal (wsum (RD A B) (ix2 0 s)) ((RD A B (ix2 3 s) + RD A B (ix2 2 s) : EReal) + RD A B (ix2 1 s)) := by pointwise [wsum, row1, row2, row3]
  rw [this, dot_is 3 _ hA.h3 hB, dot_is 2 _ hA.h2 hB, dot_is 1 _ hA.h1 hB, ← EReal.coe_add, ← EReal.coe_add]
  simp
end sums

/-! ## The row's coefficients -/
def ksgx (P : FVec Ideal S16x128 .f32) (m sg : FVec Ideal S1x128 .f32) : FVec Ideal S1x128 .f32 := subf (wsum P) (mulf m sg)
def ka (r sh : FVec Ideal S1x128 .f32) : FVec Ideal S1x128 .f32 := mulf r sh
def kxr (sx r : FVec Ideal S1x128 .f32) : FVec Ideal S1x128 .f32 := mulf sx r
def kb (a sgx xr : FVec Ideal S1x128 .f32) : FVec Ideal S1x128 .f32 := mulf (mulf a (mulf (mulf sgx kinv) xr)) xr
def kk (b m a sg : FVec Ideal S1x128 .f32) : FVec Ideal S1x128 .f32 := subf (mulf b m) (mulf a (mulf sg kinv))
def kcol (v : FVec Ideal S1x128 .f32) : FVec Ideal S128x128 .f32 :=
  transpose S128x128 [1, 0] (broadcastTo S128x128 (shapeCast S1x128 v (by decide) : FVec Ideal S1x128 .f32) (by decide) : FVec Ideal S128x128 .f32) (by decide)

theorem kcol_at (v : FVec Ideal S1x128 .f32) (s j : Fin 128) : @Eq EReal (kcol v (ix2 s j)) (v (ix2 0 s)) := by
  pointwise [kcol]

/-- One batch's coefficients. -/
structure Coef (D : Data 128) (b : Fin 2) (a bc k al be : FVec Ideal S1x128 .f32) (fa fb fk : Fin 128 → ℝ) : Prop where
  hal : Is al fun s => D.sh b s * (D.sx b s * rstd eps (D.x b s) (D.sx b s))
  hbe : Is be fun s => D.sh b s * (D.sx b s * rstd eps (D.x b s) (D.sx b s)) * mean (D.x b s)
  ha : Is a fa
  hb : Is bc fb
  hk : Is k fk
  dx : ∀ s d, (D.y b s d * D.sy b s + fa s * (D.h b s d * (1 + D.w b d))) + (fk s - fb s * D.x b s d) = D.g b s d

def kM (s : FVec Ideal S1x128 .f32) : FVec Ideal S1x128 .f32 := mulf s kinv

theorem coef (D : Data 128) (b : Fin 2) {A : FVec Ideal S16x2432 .bf16} {X : FVec Ideal S128x2432 .fp8e4m3} {Hh : FVec Ideal S128x2432 .fp8e5m2} {P Q : FVec Ideal S128x2432 .bf16}
    {sx sh : FVec Ideal S1x128 .f32} (hA : Wok A (D.w b)) (hX : ∀ s d, @Eq EReal (X (ix2 s d)) (D.x b s d)) (hH : ∀ s d, @Eq EReal (Hh (ix2 s d)) (D.h b s d))
    (hP : ∀ s d, @Eq EReal (P (ix2 s d)) ((D.x b s d * D.h b s d : ℝ) : EReal)) (hQ : ∀ s d, @Eq EReal (Q (ix2 s d)) ((D.x b s d * D.x b s d : ℝ) : EReal))
    (hsx : Is sx (D.sx b)) (hsh : Is sh (D.sh b)) {m r sg sgx xr a bc k : FVec Ideal S1x128 .f32}
    (em : m = kM (row0 (RD A X))) (er : r = krstd (row0 (RD A Q)) (row0 (RD A X)) sx) (esg : sg = wsum (RD A Hh))
    (esgx : sgx = ksgx (RD A P) m sg) (exr : xr = kxr sx r) (ea : a = ka r sh) (eb : bc = kb a sgx xr) (ek : k = kk bc m a sg) :
    ∃ fa fb fk, Coef D b a bc k (mulf sh xr) (mulf (mulf sh xr) m) fa fb fk := by
  have h0 := row0_is hA hX
  have hm : Is m fun s => (∑ d, D.x b s d) * (1 / 2432) := em ▸ h0.mul kinv_is
  have hr : Is r fun s => rstd eps (D.x b s) (D.sx b s) := er ▸ krstd_is (row0_is hA hQ) h0 hsx
  have hsg : Is sg fun s => ∑ d, (1 + D.w b d) * D.h b s d := esg ▸ wsum_is hA hH
  have hsgx : Is sgx fun s => (∑ d, (1 + D.w b d) * (D.x b s d * D.h b s d)) - (∑ d, D.x b s d) * (1 / 2432) * ∑ d, (1 + D.w b d) * D.h b s d :=
    esgx ▸ (wsum_is hA hP).sub (hm.mul hsg)
  have hxr : Is xr fun s => D.sx b s * rstd eps (D.x b s) (D.sx b s) := by rw [exr]; exact hsx.mul hr
  have ha := hr.mul hsh; rw [show mulf r sh = a from ea.symm] at ha
  have hb := (ha.mul ((hsgx.mul kinv_is).mul hxr)).mul hxr; rw [show mulf (mulf a (mulf (mulf sgx kinv) xr)) xr = bc from eb.symm] at hb
  have hk := (hb.mul hm).sub (ha.mul (hsg.mul kinv_is)); rw [show subf (mulf bc m) (mulf a (mulf sg kinv)) = k from ek.symm] at hk
  exact ⟨_, _, _, ⟨hsh.mul hxr, (hsh.mul hxr).mul hm, ha, hb, hk, fun s d =>
    dx_eq eps (D.x b s) (D.sx b s) (D.y b s) (D.sy b s) (D.h b s) (D.sh b s) (fun d => 1 + D.w b d) d _ _ _ _ _ _ _ _ _ _ rfl rfl rfl rfl rfl rfl rfl rfl rfl rfl⟩⟩

/-! ## The sixteen rows -/
section w16
def cat5 (a b c d : FVec Ideal S1x2432 .bf16) (e : FVec Ideal S12x2432 .bf16) : FVec Ideal S16x2432 .bf16 :=
  concatenate S16x2432 0 [⟨S1x2432, a⟩, ⟨S1x2432, b⟩, ⟨S1x2432, c⟩, ⟨S1x2432, d⟩, ⟨S12x2432, e⟩] concatenates_S1x2432_S1x2432_S1x2432_S1x2432_S12x2432_S16x2432_d0
variable (a b c d : FVec Ideal S1x2432 .bf16) (e : FVec Ideal S12x2432 .bf16)
theorem cat5_0 (j : Fin 2432) : @Eq EReal (cat5 a b c d e (ix2 0 j)) (a (ix2 0 j)) := by pointwise [cat5]
theorem cat5_1 (j : Fin 2432) : @Eq EReal (cat5 a b c d e (ix2 1 j)) (b (ix2 0 j)) := by pointwise [cat5]
theorem cat5_2 (j : Fin 2432) : @Eq EReal (cat5 a b c d e (ix2 2 j)) (c (ix2 0 j)) := by pointwise [cat5]
theorem cat5_3 (j : Fin 2432) : @Eq EReal (cat5 a b c d e (ix2 3 j)) (d (ix2 0 j)) := by pointwise [cat5]
end w16

def w1 (v : FVec Ideal S1x2432 .f32) : FVec Ideal S1x2432 .f32 := addf (broadcast S1x2432 (Scalar.ofBits .f32 0x3F800000#32)) v
def sp1 (v : FVec Ideal S1x2432 .f32) : FVec Ideal S1x2432 .bf16 := truncf .bf16 v
def sr1 (v : FVec Ideal S1x2432 .f32) : FVec Ideal S1x2432 .f32 := subf v (extf .f32 (truncf .bf16 v : FVec Ideal S1x2432 .bf16))
def Wm (v : FVec Ideal S1x2432 .f32) : FVec Ideal S16x2432 .bf16 :=
  shapeCast S16x2432 (cat5 (broadcast S1x2432 (Scalar.ofBits .bf16 0x3F80#16)) (sp1 (w1 v)) (sp1 (sr1 (w1 v))) (sp1 (sr1 (sr1 (w1 v)))) (broadcast S12x2432 (Scalar.ofBits .bf16 0x0000#16))) (by decide)

theorem Wm_ok {v : FVec Ideal S1x2432 .f32} {w : Fin 2432 → ℝ} (h : ∀ d, @Eq EReal (v (ix2 0 d)) (w d)) : Wok (Wm v) w := by
  have e : ∀ (u : FVec Ideal S16x2432 .bf16) (k : Fin 16) (d : Fin 2432), @Eq EReal ((shapeCast S16x2432 u (by decide) : FVec Ideal S16x2432 .bf16) (ix2 k d)) (u (ix2 k d)) := by
    intro u k d; pointwise []
  have h1 : ∀ d, @Eq EReal (w1 v (ix2 0 d)) ((1 + w d : ℝ) : EReal) := fun d => by
    show (Ideal.ofBits .f32 0x3F800000#32 : EReal) + v (ix2 0 d) = _
    rw [Ideal.ofBits_one_f32, h, EReal.coe_add, EReal.coe_one]
  have h2 : ∀ d, @Eq EReal (sr1 (w1 v) (ix2 0 d)) ((0 : ℝ) : EReal) := fun d => by
    show (w1 v (ix2 0 d) : EReal) - w1 v (ix2 0 d) = _
    rw [h1, ← EReal.coe_sub, sub_self]
  have h3 : ∀ d, @Eq EReal (sr1 (sr1 (w1 v)) (ix2 0 d)) ((0 : ℝ) : EReal) := fun d => by
    show (sr1 (w1 v) (ix2 0 d) : EReal) - sr1 (w1 v) (ix2 0 d) = _
    rw [h2, ← EReal.coe_sub, sub_self]
  refine ⟨fun d => (e _ 0 d).trans ((cat5_0 _ _ _ _ _ d).trans ?_), fun d => (e _ 1 d).trans ((cat5_1 _ _ _ _ _ d).trans (h1 d)),
    fun d => (e _ 2 d).trans ((cat5_2 _ _ _ _ _ d).trans (h2 d)), fun d => (e _ 3 d).trans ((cat5_3 _ _ _ _ _ d).trans (h3 d))⟩
  show Ideal.ofBits .bf16 0x3F80#16 = _
  rw [Ideal.ofBits_one_bf16, EReal.coe_one]

end Cert.Ker
end
-- ==== Proof.Ker2.lean ====
module

public import proofs.«01_k».proof.Proof.Ker3

@[expose] public section
set_option maxRecDepth 16384
noncomputable section

/-! The kernel's tiles of the gradient before the quantiser, its codes, the greatest magnitudes and the gate's sums. -/
namespace Cert.Ker
open Cert.KernelIdeal Cert.KernelIdeal.Gen Idealize.ShloMosaic
open Cert.Mth

variable {D : Data 128} {x0 : Vec Ideal S2x128x2432 .fp8e4m3} {x1 : Vec Ideal S2x128 .f32} {x2 : Vec Ideal S2x128x2432 .bf16}
    {x3 : Vec Ideal S2x128x2432 .fp8e5m2} {x4 : Vec Ideal S2x128 .f32} {x5 : Vec Ideal S2x128x2432 .fp8e5m2} {x6 : Vec Ideal S2x128 .f32}
    {x7 : Vec Ideal S2x2432 .f32}
  {m1 : Memref sig .tc .vmem S2x128x2432 .fp8e4m3} {g1 : m1.IsWhole} {m2 : Memref sig .tc .vmem S2x128 .f32} {g2 : m2.IsWhole}
  {m3 : Memref sig .tc .vmem S2x128x2432 .bf16} {g3 : m3.IsWhole} {m4 : Memref sig .tc .vmem S2x128x2432 .fp8e5m2} {g4 : m4.IsWhole}
  {m5 : Memref sig .tc .vmem S2x128 .f32} {g5 : m5.IsWhole} {m6 : Memref sig .tc .vmem S2x128x2432 .fp8e5m2} {g6 : m6.IsWhole}
  {m7 : Memref sig .tc .vmem S2x128 .f32} {g7 : m7.IsWhole} {m8 : Memref sig .tc .vmem S2x2432 .f32} {g8 : m8.IsWhole}

theorem covP (H : Holds D x0 x1 x2 x3 x4 x5 x6 x7) (b n : ℕ) (hb : b < 2) (hn : n < 76) {L : List (View.Piece (Elt Ideal) S128x2432 .bf16)} (h : Cov rk (Pm D ⟨b, hb⟩) n L) :
    Cov rk (Pm D ⟨b, hb⟩) (n + 1) ((⟨Rect.unit (s := S128x2432) ![32 * (n / 19), 128 * (n % 19)] S32x128.size (inbS n hn), shapeCast S32x128 (Pt m1 g1 m6 g6 x0 x5 b n hb hn) (by decide)⟩ : View.Piece (Elt Ideal) S128x2432 .bf16) :: L) :=
  Cov.tile n hn _ (Pt_at H b n hb hn) h

theorem covQ (H : Holds D x0 x1 x2 x3 x4 x5 x6 x7) (b n : ℕ) (hb : b < 2) (hn : n < 76) {L : List (View.Piece (Elt Ideal) S128x2432 .bf16)} (h : Cov rk (Qm D ⟨b, hb⟩) n L) :
    Cov rk (Qm D ⟨b, hb⟩) (n + 1) ((⟨Rect.unit (s := S128x2432) ![32 * (n / 19), 128 * (n % 19)] S32x128.size (inbS n hn), shapeCast S32x128 (Qt m1 g1 x0 b n hb hn) (by decide)⟩ : View.Piece (Elt Ideal) S128x2432 .bf16) :: L) :=
  Cov.tile n hn _ (Qt_at H b n hb hn) h

/-- What the four columns hold. -/
structure Cols (D : Data 128) (b : Fin 2) (cy ca cb ck : FVec Ideal S128x128 .f32) : Prop where
  y : ∀ s j, @Eq EReal (cy (ix2 s j)) (D.sy b s)
  g : ∃ fa fb fk : Fin 128 → ℝ, (∀ s j, @Eq EReal (ca (ix2 s j)) (fa s)) ∧ (∀ s j, @Eq EReal (cb (ix2 s j)) (fb s)) ∧ (∀ s j, @Eq EReal (ck (ix2 s j)) (fk s)) ∧
    ∀ s d, (D.y b s d * D.sy b s + fa s * (D.h b s d * (1 + D.w b d))) + (fk s - fb s * D.x b s d) = D.g b s d

theorem Vt_at (H : Holds D x0 x1 x2 x3 x4 x5 x6 x7) {cy ca cb ck : FVec Ideal S128x128 .f32} (b n : ℕ) (hb : b < 2) (hn : n < 76)
    (C : Cols D ⟨b, hb⟩ cy ca cb ck) (i : Fin 32) (j : Fin 128) :
    @Eq EReal (Vt m1 g1 m4 g4 m6 g6 m8 g8 x0 x3 x5 x7 cy ca cb ck b n hb hn (ix2 i j)) ((D.g ⟨b, hb⟩ (rw n hn i) (cl n j) : ℝ) : EReal) := by
  obtain ⟨fa, fb, fk, ha, hbb, hk, e⟩ := C.g
  have hx : @Eq EReal ((extf .f32 (shapeCast S32x128 (ldT m1 g1 x0 b n hb hn) (by decide) : FVec Ideal S32x128 .fp8e4m3) : FVec Ideal S32x128 .f32) (ix2 i j)) (ldT m1 g1 x0 b n hb hn (ix3 0 i j)) := by
    pointwise []
  show ((Yt m4 g4 x3 cy b n hb hn (ix2 i j) : EReal) + cs n hn ca (ix2 i j) * Gt m6 g6 m8 g8 x5 x7 b n hb hn (ix2 i j)) + (cs n hn ck (ix2 i j) - cs n hn cb (ix2 i j) * (extf .f32 (shapeCast S32x128 (ldT m1 g1 x0 b n hb hn) (by decide) : FVec Ideal S32x128 .fp8e4m3) : FVec Ideal S32x128 .f32) (ix2 i j)) = _
  rw [hx, ldT_at, H.x, Yt_at H b n hb hn C.y, Gt_at H, cs_at, cs_at, cs_at, ha, hbb, hk, ← EReal.coe_mul, ← EReal.coe_mul, ← EReal.coe_add, ← EReal.coe_sub, ← EReal.coe_add, e]

theorem covV (H : Holds D x0 x1 x2 x3 x4 x5 x6 x7) {cy ca cb ck : FVec Ideal S128x128 .f32} (b n : ℕ) (hb : b < 2) (hn : n < 76)
    (C : Cols D ⟨b, hb⟩ cy ca cb ck) {L : List (View.Piece (Elt Ideal) S128x2432 .f32)} (h : Cov rk (Vm D ⟨b, hb⟩) n L) :
    Cov rk (Vm D ⟨b, hb⟩) (n + 1) ((⟨Rect.unit (s := S128x2432) ![32 * (n / 19), 128 * (n % 19)] S32x128.size (inbS n hn),
      shapeCast S32x128 (Vt m1 g1 m4 g4 m6 g6 m8 g8 x0 x3 x5 x7 cy ca cb ck b n hb hn) (by decide)⟩ : View.Piece (Elt Ideal) S128x2432 .f32) :: L) := by
  refine Cov.tile n hn _ (fun i j => ?_) h
  have : @Eq EReal ((shapeCast S32x128 (Vt m1 g1 m4 g4 m6 g6 m8 g8 x0 x3 x5 x7 cy ca cb ck b n hb hn) (by decide) : FVec Ideal S32x128 .f32) (ix2 i j)) (Vt m1 g1 m4 g4 m6 g6 m8 g8 x0 x3 x5 x7 cy ca cb ck b n hb hn (ix2 i j)) := by
    pointwise []
  exact this.trans (Vt_at H b n hb hn C i j)

/-! ## Codes -/
def rk3 (y : S2x128x2432.Idx) : ℕ := 76 * (y 0).val + (19 * ((y 1).val / 32) + (y 2).val / 128)
def Cm (D : Data 128) : Vec Ideal S2x128x2432 .fp8e5m2 := fun y => ((D.cod (y 0) (y 1) (y 2) : ℝ) : EReal)

def Ct (m16 : Memref sig .tc .vmem S128x2432 .f32) (L : List (View.Piece (Elt Ideal) S128x2432 .f32)) (ci : FVec Ideal S128x128 .f32) (n : ℕ) (hn : n < 76) : FVec Ideal S32x128 .fp8e5m2 :=
  truncf .fp8e5m2 (minimumf (broadcast S32x128 (Scalar.ofBits .f32 0x47600000#32)) (maximumf (broadcast S32x128 (Scalar.ofBits .f32 0xC7600000#32))
    (mulf (View.readCov m16.view L (Rect.unit (s := S128x2432) ![32 * (n / 19), 128 * (n % 19)] S32x128.size (inbS n hn)).toLoadRect) (cs n hn ci))) : FVec Ideal S32x128 .f32)

theorem Ct_at {m16 : Memref sig .tc .vmem S128x2432 .f32} {L : List (View.Piece (Elt Ideal) S128x2432 .f32)} {ci : FVec Ideal S128x128 .f32} (b n : ℕ) (hb : b < 2) (hn : n < 76)
    (hL : Cov rk (Vm D ⟨b, hb⟩) 76 L) (hc : ∀ s j, @Eq EReal (ci (ix2 s j)) ((1 / D.scl ⟨b, hb⟩ s : ℝ) : EReal)) (i : Fin 32) (j : Fin 128) :
    @Eq EReal (Ct m16 L ci n hn (ix2 i j)) ((D.cod ⟨b, hb⟩ (rw n hn i) (cl n j) : ℝ) : EReal) := by
  have hr : @Eq EReal (View.readCov (Val := Elt Ideal) m16.view L (Rect.unit (s := S128x2432) ![32 * (n / 19), 128 * (n % 19)] S32x128.size (inbS n hn)).toLoadRect (ix2 i j)) ((D.g ⟨b, hb⟩ (rw n hn i) (cl n j) : ℝ) : EReal) := by
    rw [View.readCov_eq_canon']
    refine (Cov.all hL _).trans ?_
    exact congrArg (Vm D ⟨b, hb⟩) (emb_tile n hn i j)
  show min (Ideal.ofBits .f32 0x47600000#32 : EReal) (max (Ideal.ofBits .f32 0xC7600000#32 : EReal) ((View.readCov (Val := Elt Ideal) m16.view L (Rect.unit (s := S128x2432) ![32 * (n / 19), 128 * (n % 19)] S32x128.size (inbS n hn)).toLoadRect (ix2 i j) : EReal) * cs n hn ci (ix2 i j))) = _
  rw [hr, cs_at, hc, ofBits_57344, ofBits_neg_57344, ← EReal.coe_mul, code_coe]
  rfl

theorem covC (b n N : ℕ) (hN : N = 76 * b + n) (hb : b < 2) (hn : n < 76) {m16 : Memref sig .tc .vmem S128x2432 .f32} {L : List (View.Piece (Elt Ideal) S128x2432 .f32)} {ci : FVec Ideal S128x128 .f32}
    (hL : Cov rk (Vm D ⟨b, hb⟩) 76 L) (hc : ∀ s j, @Eq EReal (ci (ix2 s j)) ((1 / D.scl ⟨b, hb⟩ s : ℝ) : EReal)) {M : List (View.Piece (Elt Ideal) S2x128x2432 .fp8e5m2)} (h : Cov rk3 (Cm D) N M) :
    Cov rk3 (Cm D) (N + 1) ((⟨Rect.unit (s := S2x128x2432) ![b, 32 * (n / 19), 128 * (n % 19)] S1x32x128.size (inbT b n hb hn), shapeCast S1x32x128 (Ct m16 L ci n hn) (by decide)⟩ : View.Piece (Elt Ideal) S2x128x2432 .fp8e5m2) :: M) := by
  refine Cov.step _ _ (fun x => ?_) (fun y hy => ?_) h
  · obtain ⟨i, j, rfl⟩ : ∃ (i : Fin 32) (j : Fin 128), x = ix3 0 i j := by
      refine ⟨x 1, x 2, funext fun a => ?_⟩
      fin_cases a
      · exact Subsingleton.elim (α := Fin 1) _ _
      · rfl
      · rfl
    have e1 : @Eq EReal ((shapeCast S1x32x128 (Ct m16 L ci n hn) (by decide) : FVec Ideal S1x32x128 .fp8e5m2) (ix3 0 i j)) (Ct m16 L ci n hn (ix2 i j)) := by pointwise []
    refine e1.trans ((Ct_at b n hb hn hL hc i j).trans ?_)
    refine congrArg (Cm D) (a₁ := ix3 ⟨b, hb⟩ (rw n hn i) (cl n j)) (funext fun a => Fin.ext ?_)
    fin_cases a
    · show b = b + 1 * 0; omega
    · show 32 * (n / 19) + i.val = 32 * (n / 19) + 1 * i.val; omega
    · show 128 * (n % 19) + j.val = 128 * (n % 19) + 1 * j.val; omega
  · rw [Rect.mem_set_unit]
    unfold rk3 at hy
    have h0 : (y 0).val < 2 := (y 0).isLt
    have h1 : (y 1).val < 128 := (y 1).isLt
    have h2 : (y 2).val < 2432 := (y 2).isLt
    intro a; fin_cases a
    · show b ≤ (y 0).val ∧ (y 0).val < b + 1; omega
    · show 32 * (n / 19) ≤ (y 1).val ∧ (y 1).val < 32 * (n / 19) + 32; omega
    · show 128 * (n % 19) ≤ (y 2).val ∧ (y 2).val < 128 * (n % 19) + 128; omega

theorem Cov.all3 {L : List (View.Piece (Elt Ideal) S2x128x2432 .fp8e5m2)} (h : Cov rk3 (Cm D) 152 L) (y : S2x128x2432.Idx) : View.canon L y = Cm D y := by
  refine h y ?_
  have h0 : (y 0).val < 2 := (y 0).isLt
  have h1 : (y 1).val < 128 := (y 1).isLt
  have h2 : (y 2).val < 2432 := (y 2).isLt
  unfold rk3; omega

/-! ## The greatest magnitudes -/
/-- The greatest of the first numbers, and zero. -/
def mxv (f : ℕ → ℝ) : ℕ → ℝ
  | 0 => 0
  | n + 1 => max (mxv f n) |f n|

def gt (D : Data 128) (b : Fin 2) (r : ℕ) (i : Fin 32) (j : Fin 128) (t : ℕ) : ℝ :=
  if h : 19 * r + t < 76 then D.g b (rw (19 * r + t) h i) (cl (19 * r + t) j) else 0

def MI (D : Data 128) (b : Fin 2) (r t : ℕ) (w : FVec Ideal S32x128 .f32) : Prop := ∀ i j, @Eq EReal (w (ix2 i j)) ((mxv (gt D b r i j) t : ℝ) : EReal)

theorem MI.zero (b : Fin 2) (r : ℕ) : MI D b r 0 (broadcast S32x128 (Scalar.ofBits .f32 0x00000000#32)) := fun i j => Ideal.ofBits_zero_f32

theorem MI.step (H : Holds D x0 x1 x2 x3 x4 x5 x6 x7) {cy ca cb ck : FVec Ideal S128x128 .f32} (b r t : ℕ) (hb : b < 2) (hn : 19 * r + t < 76)
    (C : Cols D ⟨b, hb⟩ cy ca cb ck) {w : FVec Ideal S32x128 .f32} (h : MI D ⟨b, hb⟩ r t w) :
    MI D ⟨b, hb⟩ r (t + 1) (maximumf w (absf (Vt m1 g1 m4 g4 m6 g6 m8 g8 x0 x3 x5 x7 cy ca cb ck b (19 * r + t) hb hn))) := fun i j => by
  show max (w (ix2 i j) : EReal) (max (Vt m1 g1 m4 g4 m6 g6 m8 g8 x0 x3 x5 x7 cy ca cb ck b (19 * r + t) hb hn (ix2 i j) : EReal) (-(Vt m1 g1 m4 g4 m6 g6 m8 g8 x0 x3 x5 x7 cy ca cb ck b (19 * r + t) hb hn (ix2 i j) : EReal))) = _
  rw [h i j, Vt_at H b _ hb hn C]
  show _ = ((max _ |gt D ⟨b, hb⟩ r i j t| : ℝ) : EReal)
  unfold gt
  rw [dif_pos hn, abs_eq_max_neg, ← EReal.coe_neg, EReal.coe_strictMono.monotone.map_max, EReal.coe_strictMono.monotone.map_max]

theorem mxv_le (f : ℕ → ℝ) (B : ℝ) (h0 : 0 ≤ B) : ∀ n, (∀ t, t < n → |f t| ≤ B) → mxv f n ≤ B
  | 0, _ => h0
  | n + 1, h => max_le (mxv_le f B h0 n fun t ht => h t (by omega)) (h n (by omega))
theorem le_mxv (f : ℕ → ℝ) : ∀ n t, t < n → |f t| ≤ mxv f n
  | 0, _, h => absurd h (Nat.not_lt_zero _)
  | n + 1, t, h => by
    rcases Nat.lt_succ_iff_lt_or_eq.mp h with h | rfl
    · exact (le_mxv f n t h).trans (le_max_left _ _)
    · exact le_max_right _ _

def catM (w0 w1 w2 w3 : FVec Ideal S32x128 .f32) : FVec Ideal S128x128 .f32 :=
  concatenate S128x128 0 [⟨S32x128, w0⟩, ⟨S32x128, w1⟩, ⟨S32x128, w2⟩, ⟨S32x128, w3⟩] concatenates_S32x128_S32x128_S32x128_S32x128_S128x128_d0

def kY (w0 w1 w2 w3 : FVec Ideal S32x128 .f32) : FVec Ideal S1x128 .f32 :=
  mulf (shapeCast S1x128 (multiReduction .maximumf [0] S128 (transpose S128x128 [1, 0] (catM w0 w1 w2 w3) transposes_S128x128_p1_0_S128x128) 0xFF800000#32 reduces_S128x128_S128 (.inl rfl) rfl) shapeCasts_S128_S1x128)
    (broadcast S1x128 (Named.named κ "inv_max" 0x37924925#32))

theorem kY_at (A : FVec Ideal S128x128 .f32) (s : Fin 128) :
    @Eq EReal ((shapeCast S1x128 (multiReduction (F := Ideal) .maximumf [0] S128 (transpose S128x128 [1, 0] A transposes_S128x128_p1_0_S128x128) 0xFF800000#32 reduces_S128x128_S128 (.inl rfl) rfl) shapeCasts_S128_S1x128) (ix2 0 s))
      ((Finset.univ : Finset (Fin 128)).fold max (Ideal.ofBits .f32 0xFF800000#32) fun j => (A (ix2 s j) : EReal)) := by
  pointwise []

theorem catM_at (w0 w1 w2 w3 : FVec Ideal S32x128 .f32) (s j : Fin 128) : @Eq EReal (catM w0 w1 w2 w3 (ix2 s j))
    ((![w0, w1, w2, w3] : Fin 4 → FVec Ideal S32x128 .f32) ⟨s.val / 32, by omega⟩ (ix2 ⟨s.val % 32, by omega⟩ j)) := by
  unfold catM
  pointwise []
  obtain ⟨s, hs⟩ := s
  have : s / 32 = 0 ∨ s / 32 = 1 ∨ s / 32 = 2 ∨ s / 32 = 3 := by omega
  rcases this with e | e | e | e <;> simp only [e]
  · rw [dif_pos (by omega)]
    exact congrArg (fun i => w0 (ix2 i j)) (Fin.ext (by show s = s % 32; omega))
  · rw [dif_neg (by omega), dif_pos (by omega)]
    exact congrArg (fun i => w1 (ix2 i j)) (Fin.ext (by show s - 32 = s % 32; omega))
  · rw [dif_neg (by omega), dif_neg (by omega), dif_pos (by omega)]
    exact congrArg (fun i => w2 (ix2 i j)) (Fin.ext (by show s - 32 - 32 = s % 32; omega))
  · rw [dif_neg (by omega), dif_neg (by omega), dif_neg (by omega)]
    exact congrArg (fun i => w3 (ix2 i j)) (Fin.ext (by show s - 32 - 32 - 32 = s % 32; omega))

theorem kY_is {b : Fin 2} {w0 w1 w2 w3 : FVec Ideal S32x128 .f32} (h0 : MI D b 0 19 w0) (h1 : MI D b 1 19 w1) (h2 : MI D b 2 19 w2) (h3 : MI D b 3 19 w3) :
    Is (kY w0 w1 w2 w3) fun s => rowY (D.g b s) := fun s => by
  have hw : ∀ j, @Eq EReal (catM w0 w1 w2 w3 (ix2 s j)) ((mxv (gt D b (s.val / 32) ⟨s.val % 32, by omega⟩ j) 19 : ℝ) : EReal) := fun j => by
    rw [catM_at]
    obtain ⟨s, hs⟩ := s
    have : s / 32 = 0 ∨ s / 32 = 1 ∨ s / 32 = 2 ∨ s / 32 = 3 := by omega
    rcases this with e | e | e | e <;> simp only [e]
    · exact h0 _ _
    · exact h1 _ _
    · exact h2 _ _
    · exact h3 _ _
  show (_ : EReal) * Named.named (F := Ideal) κ "inv_max" (φ := .f32) 0x37924925#32 = _
  rw [IdealRules.named_const.ideal_named_scalar κ "inv_max" (φ := .f32) 0x37924925#32 _ rfl]
  unfold rowY
  rw [EReal.coe_mul]
  refine congrArg (fun z : EReal => z * ((1 / 57344 : ℝ) : EReal)) ((kY_at _ s).trans ?_)
  simp only [hw]
  have hg : ∀ (t : ℕ) (ht : t < 19) (j : Fin 128), gt D b (s.val / 32) ⟨s.val % 32, by omega⟩ j t = D.g b s ⟨128 * t + j.val, by omega⟩ := fun t ht j => by
    unfold gt
    rw [dif_pos (by omega)]
    congr 1
    · apply Fin.ext; show 32 * ((19 * (s.val / 32) + t) / 19) + s.val % 32 = s.val; omega
    · apply Fin.ext; show 128 * ((19 * (s.val / 32) + t) % 19) + j.val = 128 * t + j.val; omega
  rw [ofBits_bot]
  apply le_antisymm
  · rw [Finset.fold_max_le]
    refine ⟨bot_le, fun j _ => EReal.coe_le_coe_iff.mpr (mxv_le _ _ (amax_nonneg _) _ fun t ht => ?_)⟩
    rw [hg t ht]
    exact Finset.le_sup' (fun d => |D.g b s d|) (Finset.mem_univ _)
  · obtain ⟨d, _, hd⟩ := Finset.exists_mem_eq_sup' (⟨0, Finset.mem_univ _⟩ : (Finset.univ : Finset (Fin 2432)).Nonempty) fun d => |D.g b s d|
    rw [Finset.le_fold_max]
    refine Or.inr ⟨⟨d.val % 128, by omega⟩, Finset.mem_univ _, EReal.coe_le_coe_iff.mpr ?_⟩
    unfold amax
    rw [hd]
    have := le_mxv (gt D b (s.val / 32) ⟨s.val % 32, by omega⟩ ⟨d.val % 128, by omega⟩) 19 (d.val / 128) (by omega)
    rw [hg _ (by omega)] at this
    convert this using 4
    show d.val = 128 * (d.val / 128) + d.val % 128; omega

/-! ## The gate's sums -/
def T (D : Data 128) (b : Fin 2) (s : Fin 128) (d : Fin 2432) : EReal := ((D.y b s d * D.sy b s : ℝ) : EReal) * D.f b s d
def gacc (D : Data 128) (b : Fin 2) (d : Fin 2432) (m : ℕ) (i : Fin 8) : EReal :=
  ∑ r ∈ Finset.range m, ∑ q : Fin 4, T D b ⟨(32 * r + (8 * q.val + i.val)) % 128, by omega⟩ d

def GI (D : Data 128) (b : Fin 2) (n : ℕ) (L : List (View.Piece (Elt Ideal) S8x2432 .f32)) : Prop :=
  ∀ (i : Fin 8) (d : Fin 2432), @Eq EReal (View.canon L (ix2 i d)) (gacc D b d ((n + 18 - d.val / 128) / 19) i)

theorem inbG (n : ℕ) : ∀ a, (![0, 128 * (n % 19)] : Fin 2 → ℕ) a + S8x128.size a ≤ S8x2432.size a := by
  intro a; fin_cases a
  · show 0 + 8 ≤ 8; omega
  · show 128 * (n % 19) + 128 ≤ 2432; omega

theorem inbGZ : ∀ a, (![0, 0] : Fin 2 → ℕ) a + S8x2432.size a ≤ S8x2432.size a := by
  intro a; fin_cases a
  · show 0 + 8 ≤ 8; omega
  · show 0 + 2432 ≤ 2432; omega

theorem GI.zero (b : Fin 2) (L : List (View.Piece (Elt Ideal) S8x2432 .f32)) :
    GI D b 0 ((⟨Rect.unit (s := S8x2432) ![0, 0] S8x2432.size inbGZ, shapeCast S8x2432 (broadcast S8x2432 (Scalar.ofBits .f32 0x00000000#32) : FVec Ideal S8x2432 .f32) (by decide)⟩ : View.Piece (Elt Ideal) S8x2432 .f32) :: L) := fun i d => by
  have e : (ix2 i d : S8x2432.Idx) = (Rect.unit (s := S8x2432) ![0, 0] S8x2432.size inbGZ).emb (ix2 i d) := by
    funext a; apply Fin.ext
    fin_cases a
    · show i.val = 0 + 1 * i.val; omega
    · show d.val = 0 + 1 * d.val; omega
  rw [e, View.canon_cons_emb]
  have : (0 + 18 - d.val / 128) / 19 = 0 := by omega
  rw [this]
  exact Ideal.ofBits_zero_f32

/-- A tile of the gate's products. -/
def Ft (m3 : Memref sig .tc .vmem S2x128x2432 .bf16) (g3 : m3.IsWhole) (m4 : Memref sig .tc .vmem S2x128x2432 .fp8e5m2) (g4 : m4.IsWhole) (x2 : Vec Ideal S2x128x2432 .bf16)
    (x3 : Vec Ideal S2x128x2432 .fp8e5m2) (cy : FVec Ideal S128x128 .f32) (b n : ℕ) (hb : b < 2) (hn : n < 76) : FVec Ideal S32x128 .f32 :=
  mulf (Yt m4 g4 x3 cy b n hb hn) (extf .f32 (shapeCast S32x128 (ldT m3 g3 x2 b n hb hn) (by decide) : FVec Ideal S32x128 .bf16))

theorem Ft_at (H : Holds D x0 x1 x2 x3 x4 x5 x6 x7) {cy : FVec Ideal S128x128 .f32} (b n : ℕ) (hb : b < 2) (hn : n < 76)
    (hy : ∀ s j, @Eq EReal (cy (ix2 s j)) (D.sy ⟨b, hb⟩ s)) (i : Fin 32) (j : Fin 128) :
    @Eq EReal (Ft m3 g3 m4 g4 x2 x3 cy b n hb hn (ix2 i j)) (T D ⟨b, hb⟩ (rw n hn i) (cl n j)) := by
  have hx : @Eq EReal ((extf .f32 (shapeCast S32x128 (ldT m3 g3 x2 b n hb hn) (by decide) : FVec Ideal S32x128 .bf16) : FVec Ideal S32x128 .f32) (ix2 i j)) (ldT m3 g3 x2 b n hb hn (ix3 0 i j)) := by
    pointwise []
  show (Yt m4 g4 x3 cy b n hb hn (ix2 i j) : EReal) * (extf .f32 (shapeCast S32x128 (ldT m3 g3 x2 b n hb hn) (by decide) : FVec Ideal S32x128 .bf16) : FVec Ideal S32x128 .f32) (ix2 i j) = _
  rw [hx, ldT_at, H.f, Yt_at H b n hb hn hy]
  rfl

def sumT (W : FVec Ideal S32x128 .f32) : FVec Ideal S8x128 .f32 :=
  multiReduction .add [0] S8x128 (shapeCast S4x8x128 W (by decide) : FVec Ideal S4x8x128 .f32) 0x00000000#32 reduces_S4x8x128_S8x128 (.inl rfl) rfl

theorem cast_at (W : FVec Ideal S32x128 .f32) (q : Fin 4) (i : Fin 8) (j : Fin 128) :
    @Eq EReal ((shapeCast S4x8x128 W (by decide) : FVec Ideal S4x8x128 .f32) (ix3 q i j)) (W (ix2 ⟨8 * q.val + i.val, by omega⟩ j)) := by
  pointwise []
  exact congrArg (fun i => W (ix2 i j)) (Fin.ext (by show q.val * 8 + i.val = 8 * q.val + i.val; omega))

theorem sumT_at (W : FVec Ideal S32x128 .f32) (i : Fin 8) (j : Fin 128) : @Eq EReal (sumT W (ix2 i j)) (∑ q : Fin 4, (W (ix2 ⟨8 * q.val + i.val, by omega⟩ j) : EReal)) := by
  have h : ∀ U : FVec Ideal S4x8x128 .f32, @Eq EReal (multiReduction (F := Ideal) .add [0] S8x128 U 0x00000000#32 reduces_S4x8x128_S8x128 (.inl rfl) rfl (ix2 i j)) (∑ q : Fin 4, (U (ix3 q i j) : EReal)) := by
    intro U
    pointwise []
  exact (h _).trans (Finset.sum_congr rfl fun q _ => cast_at W q i j)

theorem emb_G (n : ℕ) (i : Fin 8) (j : Fin 128) :
    (Rect.unit (s := S8x2432) ![0, 128 * (n % 19)] S8x128.size (inbG n)).emb (ix2 i j) = (ix2 i (cl n j) : S8x2432.Idx) := by
  funext a; apply Fin.ext
  fin_cases a
  · show 0 + 1 * i.val = i.val; omega
  · show 128 * (n % 19) + 1 * j.val = 128 * (n % 19) + j.val; omega

theorem GI.step (H : Holds D x0 x1 x2 x3 x4 x5 x6 x7) {cy : FVec Ideal S128x128 .f32} {m17 : Memref sig .tc .vmem S8x2432 .f32} (b n : ℕ) (hb : b < 2) (hn : n < 76)
    (hy : ∀ s j, @Eq EReal (cy (ix2 s j)) (D.sy ⟨b, hb⟩ s)) {L : List (View.Piece (Elt Ideal) S8x2432 .f32)} (h : GI D ⟨b, hb⟩ n L) :
    GI D ⟨b, hb⟩ (n + 1) ((⟨Rect.unit (s := S8x2432) ![0, 128 * (n % 19)] S8x128.size (inbG n),
      shapeCast S8x128 (addf (View.readCov m17.view L (Rect.unit (s := S8x2432) ![0, 128 * (n % 19)] S8x128.size (inbG n)).toLoadRect) (sumT (Ft m3 g3 m4 g4 x2 x3 cy b n hb hn)) : FVec Ideal S8x128 .f32) (by decide)⟩ :
        View.Piece (Elt Ideal) S8x2432 .f32) :: L) := fun i d => by
  by_cases hd : d.val / 128 = n % 19
  · obtain ⟨j, rfl⟩ : ∃ j, d = cl n j := ⟨⟨d.val % 128, by omega⟩, Fin.ext (by show d.val = 128 * (n % 19) + d.val % 128; omega)⟩
    rw [← emb_G n i j, View.canon_cons_emb]
    have e1 : ∀ A : FVec Ideal S8x128 .f32, @Eq EReal ((shapeCast S8x128 A (by decide) : FVec Ideal S8x128 .f32) (ix2 i j)) (A (ix2 i j)) := by
      intro A; pointwise []
    refine (e1 _).trans ?_
    show (View.readCov (Val := Elt Ideal) m17.view L (Rect.unit (s := S8x2432) ![0, 128 * (n % 19)] S8x128.size (inbG n)).toLoadRect (ix2 i j) : EReal) + sumT (Ft m3 g3 m4 g4 x2 x3 cy b n hb hn) (ix2 i j) = _
    have e2 : @Eq EReal (View.readCov (Val := Elt Ideal) m17.view L (Rect.unit (s := S8x2432) ![0, 128 * (n % 19)] S8x128.size (inbG n)).toLoadRect (ix2 i j)) (gacc D ⟨b, hb⟩ (cl n j) (n / 19) i) := by
      rw [View.readCov_eq_canon']
      refine (congrArg (View.canon L) (emb_G n i j)).trans ((h i (cl n j)).trans ?_)
      rw [show (n + 18 - (cl n j).val / 128) / 19 = n / 19 by rw [hd]; omega]
    rw [e2, sumT_at, show (n + 1 + 18 - (cl n j).val / 128) / 19 = n / 19 + 1 by rw [hd]; omega]
    unfold gacc
    rw [Finset.sum_range_succ]
    refine congrArg _ (Finset.sum_congr rfl fun q _ => (Ft_at H b n hb hn hy _ j).trans ?_)
    refine congrArg (fun s => T D ⟨b, hb⟩ s (cl n j)) (Fin.ext ?_)
    show 32 * (n / 19) + (8 * q.val + i.val) = (32 * (n / 19) + (8 * q.val + i.val)) % 128
    omega
  · rw [View.canon_cons_of_not_mem _ _ (by
      rw [Rect.mem_set_unit]
      intro hm
      have := hm 1
      have h1 : 128 * (n % 19) ≤ d.val ∧ d.val < 128 * (n % 19) + 128 := this
      omega), h i d]
    rw [show (n + 1 + 18 - d.val / 128) / 19 = (n + 18 - d.val / 128) / 19 by omega]

theorem GI.all {b : Fin 2} {L : List (View.Piece (Elt Ideal) S8x2432 .f32)} (h : GI D b 76 L) (d : Fin 2432) :
    @Eq EReal (∑ i : Fin 8, (View.canon L (ix2 i d) : EReal)) (∑ s, ((D.y b s d * D.sy b s : ℝ) : EReal) * D.f b s d) := by
  have e : ∀ i : Fin 8, @Eq EReal (View.canon L (ix2 i d)) (∑ r : Fin 4, ∑ q : Fin 4, T D b ⟨32 * r.val + (8 * q.val + i.val), by omega⟩ d) := fun i => by
    rw [h i d, show (76 + 18 - d.val / 128) / 19 = 4 by omega]
    unfold gacc
    rw [Finset.sum_range]
    refine Finset.sum_congr rfl fun r _ => Finset.sum_congr rfl fun q _ => ?_
    exact congrArg (fun s => T D b s d) (Fin.ext (Nat.mod_eq_of_lt (by omega)))
  simp only [e]
  let E : Fin 8 × Fin 4 × Fin 4 ≃ Fin 128 :=
    { toFun := fun p => ⟨32 * p.2.1.val + (8 * p.2.2.val + p.1.val), by omega⟩
      invFun := fun s => (⟨s.val % 8, by omega⟩, ⟨s.val / 32, by omega⟩, ⟨s.val / 8 % 4, by omega⟩)
      left_inv := fun p => by
        obtain ⟨i, r, q⟩ := p
        refine Prod.ext (Fin.ext ?_) (Prod.ext (Fin.ext ?_) (Fin.ext ?_))
        · show (32 * r.val + (8 * q.val + i.val)) % 8 = i.val; omega
        · show (32 * r.val + (8 * q.val + i.val)) / 32 = r.val; omega
        · show (32 * r.val + (8 * q.val + i.val)) / 8 % 4 = q.val; omega
      right_inv := fun s => Fin.ext (by show 32 * (s.val / 32) + (8 * (s.val / 8 % 4) + s.val % 8) = s.val; omega) }
  refine Eq.trans ?_ (Fintype.sum_equiv E (fun p => T D b (E p) d) (fun s => T D b s d) fun p => rfl)
  rw [Fintype.sum_prod_type]
  refine Finset.sum_congr rfl fun i _ => ?_
  rw [Fintype.sum_prod_type]
  rfl

end Cert.Ker
end
-- ==== Proof.Ker4.lean ====
module

public import proofs.«01_k».proof.Proof.Ker3

@[expose] public section
set_option maxRecDepth 16384
noncomputable section

/-! The kernel's search for a row's exponent, and the gradients of shift, scale and gate. -/
namespace Cert.Ker
open Cert.KernelIdeal Cert.KernelIdeal.Gen Idealize.ShloMosaic
open Cert.Mth

abbrev IR := IVec S1x128 32

/-- One step of the search. -/
def kst (Y : FVec Ideal S1x128 .f32) (e : IR) (k : BitVec 32) : IR :=
  select (cmpf .oge Y (bitcastToFloat .f32 (shli (addi e (broadcast S1x128 k)) (broadcast S1x128 23#32)))) (addi e (broadcast S1x128 k)) e

theorem kst_at (Y : FVec Ideal S1x128 .f32) (e : IR) (k : BitVec 32) (s : Fin 128) : kst Y e k (ix2 0 s) = stp (Y (ix2 0 s)) (e (ix2 0 s)) k := by
  unfold stp
  pointwise [kst]
  rfl

def ksrch (Y : FVec Ideal S1x128 .f32) : IR :=
  kst Y (kst Y (kst Y (kst Y (kst Y (kst Y (kst Y (kst Y (broadcast S1x128 0#32) 128#32) 64#32) 32#32) 16#32) 8#32) 4#32) 2#32) 1#32

theorem ksrch_at (Y : FVec Ideal S1x128 .f32) (s : Fin 128) : ksrch Y (ix2 0 s) = srch (Y (ix2 0 s)) := by
  unfold ksrch srch
  simp only [kst_at]
  rfl

def kfix (e : IR) : IR :=
  select (ori (cmpi .eq (subi e (broadcast S1x128 126#32)) (broadcast S1x128 4294967170#32)) (cmpi .eq (subi e (broadcast S1x128 126#32)) (broadcast S1x128 129#32)))
    (broadcast S1x128 0#32) (subi e (broadcast S1x128 126#32))

theorem kfix_at (e : IR) (s : Fin 128) : kfix e (ix2 0 s) = efix (e (ix2 0 s)) := by
  unfold efix
  pointwise [kfix]
  show Scalar.select (IntOp.ori (IntOp.cmpi .eq (e (ix2 0 s) - 126#32) 4294967170#32) (IntOp.cmpi .eq (e (ix2 0 s) - 126#32) 129#32)) (0#32) (e (ix2 0 s) - 126#32) = _
  generalize e (ix2 0 s) - 126#32 = z
  by_cases h1 : z = 4294967170#32
  · subst h1; rfl
  · by_cases h2 : z = 129#32
    · subst h2; rfl
    · rw [if_neg (by tauto)]
      have e1 : IntOp.cmpi .eq z 4294967170#32 = 0#1 := by
        show BitVec.ofBool (z == 4294967170#32) = 0#1
        rw [beq_eq_false_iff_ne.mpr h1]; rfl
      have e2 : IntOp.cmpi .eq z 129#32 = 0#1 := by
        show BitVec.ofBool (z == 129#32) = 0#1
        rw [beq_eq_false_iff_ne.mpr h2]; rfl
      rw [e1, e2]; rfl

def kscl (e : IR) : FVec Ideal S1x128 .f32 := bitcastToFloat .f32 (shli (addi e (broadcast S1x128 127#32)) (broadcast S1x128 23#32))
def kinvs (e : IR) : FVec Ideal S1x128 .f32 := bitcastToFloat .f32 (shli (subi (broadcast S1x128 127#32) e) (broadcast S1x128 23#32))

theorem kscl_at (e : IR) (s : Fin 128) : @Eq EReal (kscl e (ix2 0 s)) (Ideal.ofBits .f32 ((e (ix2 0 s) + 127#32) <<< 23)) := by
  pointwise [kscl]
  rfl
theorem kinvs_at (e : IR) (s : Fin 128) : @Eq EReal (kinvs e (ix2 0 s)) (Ideal.ofBits .f32 ((127#32 - e (ix2 0 s)) <<< 23)) := by
  pointwise [kinvs]
  rfl

theorem kscl_is {Y : FVec Ideal S1x128 .f32} {f : Fin 128 → ℝ} (hY : Is Y f) (h0 : ∀ s, 0 ≤ f s) (h1 : ∀ s, f s < (2 : ℝ) ^ (120 : ℤ)) :
    Is (kscl (kfix (ksrch Y))) fun s => rscale (f s) := fun s => by
  rw [kscl_at, kfix_at, ksrch_at, hY]
  exact (kscale (f s) (h0 s) (h1 s)).1
theorem kinvs_is {Y : FVec Ideal S1x128 .f32} {f : Fin 128 → ℝ} (hY : Is Y f) (h0 : ∀ s, 0 ≤ f s) (h1 : ∀ s, f s < (2 : ℝ) ^ (120 : ℤ)) :
    Is (kinvs (kfix (ksrch Y))) fun s => 1 / rscale (f s) := fun s => by
  rw [kinvs_at, kfix_at, ksrch_at, hY]
  exact (kscale (f s) (h0 s) (h1 s)).2

/-! ## The gradients of shift, scale and gate -/
def sp (v : FVec Ideal S1x128 .f32) : FVec Ideal S1x128 .bf16 := truncf .bf16 v
def sr (v : FVec Ideal S1x128 .f32) : FVec Ideal S1x128 .f32 := subf v (extf .f32 (truncf .bf16 v : FVec Ideal S1x128 .bf16))
theorem sr_is {v : FVec Ideal S1x128 .f32} {f : Fin 128 → ℝ} (h : Is v f) : Is (sr v) fun _ => 0 := fun s => by
  show (v (ix2 0 s) : EReal) - v (ix2 0 s) = _
  rw [h, ← EReal.coe_sub, sub_self]

def cat7 (a b c d e f : FVec Ideal S1x128 .bf16) (z : FVec Ideal S10x128 .bf16) : FVec Ideal S16x128 .bf16 :=
  concatenate S16x128 0 [⟨S1x128, a⟩, ⟨S1x128, b⟩, ⟨S1x128, c⟩, ⟨S1x128, d⟩, ⟨S1x128, e⟩, ⟨S1x128, f⟩, ⟨S10x128, z⟩] concatenates_S1x128_S1x128_S1x128_S1x128_S1x128_S1x128_S10x128_S16x128_d0
def cat4 (a b c : FVec Ideal S1x128 .bf16) (z : FVec Ideal S13x128 .bf16) : FVec Ideal S16x128 .bf16 :=
  concatenate S16x128 0 [⟨S1x128, a⟩, ⟨S1x128, b⟩, ⟨S1x128, c⟩, ⟨S13x128, z⟩] concatenates_S1x128_S1x128_S1x128_S13x128_S16x128_d0
section
variable (a b c d e f : FVec Ideal S1x128 .bf16) (z : FVec Ideal S10x128 .bf16) (z' : FVec Ideal S13x128 .bf16) (j : Fin 128)
theorem cat7_0 : @Eq EReal (cat7 a b c d e f z (ix2 0 j)) (a (ix2 0 j)) := by pointwise [cat7]
theorem cat7_1 : @Eq EReal (cat7 a b c d e f z (ix2 1 j)) (b (ix2 0 j)) := by pointwise [cat7]
theorem cat7_2 : @Eq EReal (cat7 a b c d e f z (ix2 2 j)) (c (ix2 0 j)) := by pointwise [cat7]
theorem cat7_3 : @Eq EReal (cat7 a b c d e f z (ix2 3 j)) (d (ix2 0 j)) := by pointwise [cat7]
theorem cat7_4 : @Eq EReal (cat7 a b c d e f z (ix2 4 j)) (e (ix2 0 j)) := by pointwise [cat7]
theorem cat7_5 : @Eq EReal (cat7 a b c d e f z (ix2 5 j)) (f (ix2 0 j)) := by pointwise [cat7]
theorem cat4_0 : @Eq EReal (cat4 a b c z' (ix2 0 j)) (a (ix2 0 j)) := by pointwise [cat4]
theorem cat4_1 : @Eq EReal (cat4 a b c z' (ix2 1 j)) (b (ix2 0 j)) := by pointwise [cat4]
theorem cat4_2 : @Eq EReal (cat4 a b c z' (ix2 2 j)) (c (ix2 0 j)) := by pointwise [cat4]
end

/-- Sixteen rows of scales times the rows of a matrix. -/
def RO {φ : FTy} (A : FVec Ideal S16x128 .bf16) (B : FVec Ideal S128x2432 φ) : FVec Ideal S16x2432 .f32 :=
  matmul dot_S16x128_S128x2432_S16x2432_1_0_0_1_n_n none A B (constant S16x2432 .f32 0x00000000#32)
theorem RO_at {φ : FTy} (A : FVec Ideal S16x128 .bf16) (B : FVec Ideal S128x2432 φ) (k : Fin 16) (d : Fin 2432) :
    @Eq EReal (RO A B (ix2 k d)) (∑ s, (A (ix2 k s) : EReal) * B (ix2 s d)) := by
  pointwise [RO]
theorem RO_is {φ : FTy} {A : FVec Ideal S16x128 .bf16} {B : FVec Ideal S128x2432 φ} {f : Fin 128 → Fin 2432 → ℝ} (k : Fin 16) (a : Fin 128 → ℝ)
    (hA : ∀ s, @Eq EReal (A (ix2 k s)) (a s)) (hB : ∀ s d, @Eq EReal (B (ix2 s d)) (f s d)) (d : Fin 2432) :
    @Eq EReal (RO A B (ix2 k d)) ((∑ s, a s * f s d : ℝ) : EReal) := by
  rw [RO_at]
  simp only [hA, hB, ← EReal.coe_mul, coe_sum]

def KSh (sh be : FVec Ideal S1x128 .f32) : FVec Ideal S16x128 .bf16 :=
  cat7 (sp sh) (sp (sr sh)) (sp (sr (sr sh))) (sp be) (sp (sr be)) (sp (sr (sr be))) (broadcast S10x128 (Scalar.ofBits .bf16 0x0000#16))
def KSp (al : FVec Ideal S1x128 .f32) : FVec Ideal S16x128 .bf16 :=
  cat4 (sp al) (sp (sr al)) (sp (sr (sr al))) (broadcast S13x128 (Scalar.ofBits .bf16 0x0000#16))

def lo3 (R : FVec Ideal S16x2432 .f32) : FVec Ideal S1x2432 .f32 :=
  addf (addf (extractStridedSlice S1x2432 ![2, 0] R (by decide)) (extractStridedSlice S1x2432 ![1, 0] R (by decide))) (extractStridedSlice S1x2432 ![0, 0] R (by decide))
def hi3 (R : FVec Ideal S16x2432 .f32) : FVec Ideal S1x2432 .f32 :=
  addf (addf (extractStridedSlice S1x2432 ![5, 0] R (by decide)) (extractStridedSlice S1x2432 ![4, 0] R (by decide))) (extractStridedSlice S1x2432 ![3, 0] R (by decide))
theorem lo3_at (R : FVec Ideal S16x2432 .f32) (d : Fin 2432) : @Eq EReal (lo3 R (ix2 0 d)) ((R (ix2 2 d) + R (ix2 1 d) : EReal) + R (ix2 0 d)) := by
  pointwise [lo3]
theorem hi3_at (R : FVec Ideal S16x2432 .f32) (d : Fin 2432) : @Eq EReal (hi3 R (ix2 0 d)) ((R (ix2 5 d) + R (ix2 4 d) : EReal) + R (ix2 3 d)) := by
  pointwise [hi3]

section
variable {φ : FTy} {sh be al : FVec Ideal S1x128 .f32} {fs fb fa : Fin 128 → ℝ} {B : FVec Ideal S128x2432 φ} {f : Fin 128 → Fin 2432 → ℝ}
theorem loH (hs : Is sh fs) (hB : ∀ s d, @Eq EReal (B (ix2 s d)) (f s d)) (d : Fin 2432) :
    @Eq EReal (lo3 (RO (KSh sh be) B) (ix2 0 d)) ((∑ s, fs s * f s d : ℝ) : EReal) := by
  rw [lo3_at, RO_is (A := KSh sh be) 2 _ (fun s => (cat7_2 _ _ _ _ _ _ _ s).trans (sr_is (sr_is hs) s)) hB, RO_is (A := KSh sh be) 1 _ (fun s => (cat7_1 _ _ _ _ _ _ _ s).trans (sr_is hs s)) hB,
    RO_is (A := KSh sh be) 0 _ (fun s => (cat7_0 _ _ _ _ _ _ _ s).trans (hs s)) hB, ← EReal.coe_add, ← EReal.coe_add]
  simp
theorem hiH (hb : Is be fb) (hB : ∀ s d, @Eq EReal (B (ix2 s d)) (f s d)) (d : Fin 2432) :
    @Eq EReal (hi3 (RO (KSh sh be) B) (ix2 0 d)) ((∑ s, fb s * f s d : ℝ) : EReal) := by
  rw [hi3_at, RO_is (A := KSh sh be) 5 _ (fun s => (cat7_5 _ _ _ _ _ _ _ s).trans (sr_is (sr_is hb) s)) hB, RO_is (A := KSh sh be) 4 _ (fun s => (cat7_4 _ _ _ _ _ _ _ s).trans (sr_is hb s)) hB,
    RO_is (A := KSh sh be) 3 _ (fun s => (cat7_3 _ _ _ _ _ _ _ s).trans (hb s)) hB, ← EReal.coe_add, ← EReal.coe_add]
  simp
theorem loP (ha : Is al fa) (hB : ∀ s d, @Eq EReal (B (ix2 s d)) (f s d)) (d : Fin 2432) :
    @Eq EReal (lo3 (RO (KSp al) B) (ix2 0 d)) ((∑ s, fa s * f s d : ℝ) : EReal) := by
  rw [lo3_at, RO_is (A := KSp al) 2 _ (fun s => (cat4_2 _ _ _ _ s).trans (sr_is (sr_is ha) s)) hB, RO_is (A := KSp al) 1 _ (fun s => (cat4_1 _ _ _ _ s).trans (sr_is ha s)) hB,
    RO_is (A := KSp al) 0 _ (fun s => (cat4_0 _ _ _ _ s).trans (ha s)) hB, ← EReal.coe_add, ← EReal.coe_add]
  simp
end

def KG (g : FVec Ideal S8x2432 .f32) : FVec Ideal S1x2432 .f32 :=
  shapeCast S1x2432 (multiReduction .add [0] S2432 g 0x00000000#32 reduces_S8x2432_S2432 (.inl rfl) rfl) (by decide)
theorem KG_at (g : FVec Ideal S8x2432 .f32) (d : Fin 2432) : @Eq EReal (KG g (ix2 0 d)) (∑ i : Fin 8, (g (ix2 i d) : EReal)) := by
  pointwise [KG]

def cat3 (a b c : FVec Ideal S1x2432 .f32) : FVec Ideal S3x2432 .f32 :=
  concatenate S3x2432 0 [⟨S1x2432, a⟩, ⟨S1x2432, b⟩, ⟨S1x2432, c⟩] concatenates_S1x2432_S1x2432_S1x2432_S3x2432_d0
section
variable (a b c : FVec Ideal S1x2432 .f32) (j : Fin 2432)
theorem cat3_0 : @Eq EReal (cat3 a b c (ix2 0 j)) (a (ix2 0 j)) := by pointwise [cat3]
theorem cat3_1 : @Eq EReal (cat3 a b c (ix2 1 j)) (b (ix2 0 j)) := by pointwise [cat3]
theorem cat3_2 : @Eq EReal (cat3 a b c (ix2 2 j)) (c (ix2 0 j)) := by pointwise [cat3]
end

def KO (sh be al : FVec Ideal S1x128 .f32) (Hh : FVec Ideal S128x2432 .fp8e5m2) (P : FVec Ideal S128x2432 .bf16) (g : FVec Ideal S8x2432 .f32) : FVec Ideal S3x2432 .f32 :=
  cat3 (lo3 (RO (KSh sh be) Hh)) (subf (lo3 (RO (KSp al) P)) (hi3 (RO (KSh sh be) Hh))) (KG g)

theorem KO_at (D : Data 128) (b : Fin 2) {sh be al a bc k : FVec Ideal S1x128 .f32} {Hh : FVec Ideal S128x2432 .fp8e5m2} {P : FVec Ideal S128x2432 .bf16} {g : FVec Ideal S8x2432 .f32}
    {fa fb fk : Fin 128 → ℝ} (hsh : Is sh (D.sh b)) (C : Coef D b a bc k al be fa fb fk)
    (hH : ∀ s d, @Eq EReal (Hh (ix2 s d)) (D.h b s d)) (hP : ∀ s d, @Eq EReal (P (ix2 s d)) ((D.x b s d * D.h b s d : ℝ) : EReal))
    (hg : ∀ d, @Eq EReal (∑ i : Fin 8, (g (ix2 i d) : EReal)) (∑ s, ((D.y b s d * D.sy b s : ℝ) : EReal) * D.f b s d)) (i : Fin 3) (d : Fin 2432) :
    @Eq EReal (KO sh be al Hh P g (ix2 i d)) (D.out b i d) := by
  have h0 : @Eq EReal (KO sh be al Hh P g (ix2 0 d)) (D.out b 0 d) := by
    refine (cat3_0 _ _ _ d).trans ((loH hsh hH d).trans ?_)
    unfold Data.out; rw [if_pos rfl]
    exact congrArg _ (Finset.sum_congr rfl fun s _ => mul_comm _ _)
  have h1 : @Eq EReal (KO sh be al Hh P g (ix2 1 d)) (D.out b 1 d) := by
    refine (cat3_1 _ _ _ d).trans ?_
    show (lo3 (RO (KSp al) P) (ix2 0 d) : EReal) - hi3 (RO (KSh sh be) Hh) (ix2 0 d) = _
    rw [loP C.hal hP, hiH C.hbe hH, ← EReal.coe_sub]
    unfold Data.out; rw [if_neg (by decide), if_pos rfl]
    exact congrArg _ (dscale_eq eps (D.x b) (D.h b) (D.sx b) (D.sh b) d)
  have h2 : @Eq EReal (KO sh be al Hh P g (ix2 2 d)) (D.out b 2 d) := by
    refine (cat3_2 _ _ _ d).trans ((KG_at g d).trans ((hg d).trans ?_))
    unfold Data.out; rw [if_neg (by decide), if_neg (by decide)]
  fin_cases i
  · exact h0
  · exact h1
  · exact h2

end Cert.Ker
end
-- ==== Proof.Ker5.lean ====
module

public import proofs.«01_k».proof.Proof.Ker2
public import proofs.«01_k».proof.Proof.Ker4

@[expose] public section
set_option maxRecDepth 16384
noncomputable section

/-! A batch's whole operands, its coefficients, and the stores of its results. -/
namespace Cert.Ker
open Cert.KernelIdeal Cert.KernelIdeal.Gen Idealize.ShloMosaic
open Cert.Mth

/-- A batch of an operand's codes. -/
def FX (m : Memref sig .tc .vmem S2x128x2432 .fp8e4m3) (hm : m.IsWhole) (X : Vec Ideal S2x128x2432 .fp8e4m3) (b : ℕ) (hb : b < 2) : FVec Ideal S128x2432 .fp8e4m3 :=
  shapeCast S128x2432 (ldF m hm X b hb) (by decide)
theorem FX_at (m : Memref sig .tc .vmem S2x128x2432 .fp8e4m3) (hm : m.IsWhole) (X : Vec Ideal S2x128x2432 .fp8e4m3) (b : ℕ) (hb : b < 2) (s : Fin 128) (d : Fin 2432) :
    @Eq EReal (FX m hm X b hb (ix2 s d)) (X (ix3 ⟨b, hb⟩ s d)) := by
  have : @Eq EReal (FX m hm X b hb (ix2 s d)) (ldF m hm X b hb (ix3 0 s d)) := by pointwise [FX]
  rw [this, ldF_at]

/-- A batch of an operand's codes. -/
def FH (m : Memref sig .tc .vmem S2x128x2432 .fp8e5m2) (hm : m.IsWhole) (X : Vec Ideal S2x128x2432 .fp8e5m2) (b : ℕ) (hb : b < 2) : FVec Ideal S128x2432 .fp8e5m2 :=
  shapeCast S128x2432 (ldF m hm X b hb) (by decide)
theorem FH_at (m : Memref sig .tc .vmem S2x128x2432 .fp8e5m2) (hm : m.IsWhole) (X : Vec Ideal S2x128x2432 .fp8e5m2) (b : ℕ) (hb : b < 2) (s : Fin 128) (d : Fin 2432) :
    @Eq EReal (FH m hm X b hb (ix2 s d)) (X (ix3 ⟨b, hb⟩ s d)) := by
  have : @Eq EReal (FH m hm X b hb (ix2 s d)) (ldF m hm X b hb (ix3 0 s d)) := by pointwise [FH]
  rw [this, ldF_at]

theorem inbM : ∀ a, (![0, 0] : Fin 2 → ℕ) a + S128x2432.size a ≤ S128x2432.size a := by decide
theorem inbK : ∀ a, (![0, 0] : Fin 2 → ℕ) a + S16x2432.size a ≤ S16x2432.size a := by decide

/-- A load of a whole matrix after its tiles. -/
theorem readAll {e : EltTy} (v : View sig .tc .vmem S128x2432 e) {G : Vec Ideal S128x2432 e} {L : List (View.Piece (Elt Ideal) S128x2432 e)} (h : Cov rk G 76 L) (y : S128x2432.Idx) :
    View.readCov v L (Rect.unit (s := S128x2432) ![0, 0] S128x2432.size inbM).toLoadRect y = G y := by
  rw [View.readCov_eq_canon']
  refine (Cov.all h _).trans (congrArg G (funext fun a => Fin.ext ?_))
  fin_cases a
  · show 0 + 1 * (y 0).val = (y 0).val; omega
  · show 0 + 1 * (y 1).val = (y 1).val; omega

theorem readG (v : View sig .tc .vmem S8x2432 .f32) (L : List (View.Piece (Elt Ideal) S8x2432 .f32)) (y : S8x2432.Idx) :
    View.readCov v L (Rect.unit (s := S8x2432) ![0, 0] S8x2432.size inbGZ).toLoadRect y = View.canon L y := by
  rw [View.readCov_eq_canon']
  refine congrArg (View.canon L) (funext fun a => Fin.ext ?_)
  fin_cases a
  · show 0 + 1 * (y 0).val = (y 0).val; omega
  · show 0 + 1 * (y 1).val = (y 1).val; omega

theorem readW (v : View sig .tc .vmem S16x2432 .bf16) (w : Vec Ideal S16x2432 .bf16) (L : List (View.Piece (Elt Ideal) S16x2432 .bf16)) :
    View.readCov v ((⟨Rect.unit (s := S16x2432) ![0, 0] S16x2432.size inbK, w⟩ : View.Piece (Elt Ideal) S16x2432 .bf16) :: L) (Rect.unit (s := S16x2432) ![0, 0] S16x2432.size inbK).toLoadRect = w :=
  View.readCov_cons_unit_lit' v inbK inbK w L (by decide) (by decide)

/-! ## Coefficients -/
section co
variable (A : FVec Ideal S16x2432 .bf16) (X : FVec Ideal S128x2432 .fp8e4m3) (Hh : FVec Ideal S128x2432 .fp8e5m2) (P Q : FVec Ideal S128x2432 .bf16)
    (sx sh : FVec Ideal S1x128 .f32)
def dM : FVec Ideal S1x128 .f32 := kM (row0 (RD A X))
def dR : FVec Ideal S1x128 .f32 := krstd (row0 (RD A Q)) (row0 (RD A X)) sx
def dXr : FVec Ideal S1x128 .f32 := kxr sx (dR A X Q sx)
def dA : FVec Ideal S1x128 .f32 := ka (dR A X Q sx) sh
def dSg : FVec Ideal S1x128 .f32 := wsum (RD A Hh)
def dSgx : FVec Ideal S1x128 .f32 := ksgx (RD A P) (dM A X) (dSg A Hh)
def dB : FVec Ideal S1x128 .f32 := kb (dA A X Q sx sh) (dSgx A X Hh P) (dXr A X Q sx)
def dK : FVec Ideal S1x128 .f32 := kk (dB A X Hh P Q sx sh) (dM A X) (dA A X Q sx sh) (dSg A Hh)
def dAl : FVec Ideal S1x128 .f32 := mulf sh (dXr A X Q sx)
def dBe : FVec Ideal S1x128 .f32 := mulf (dAl A X Q sx sh) (dM A X)
end co

theorem coef' (D : Data 128) (b : Fin 2) {A : FVec Ideal S16x2432 .bf16} {X : FVec Ideal S128x2432 .fp8e4m3} {Hh : FVec Ideal S128x2432 .fp8e5m2} {P Q : FVec Ideal S128x2432 .bf16}
    {sx sh : FVec Ideal S1x128 .f32} (hA : Wok A (D.w b)) (hX : ∀ s d, @Eq EReal (X (ix2 s d)) (D.x b s d)) (hH : ∀ s d, @Eq EReal (Hh (ix2 s d)) (D.h b s d))
    (hP : ∀ s d, @Eq EReal (P (ix2 s d)) ((D.x b s d * D.h b s d : ℝ) : EReal)) (hQ : ∀ s d, @Eq EReal (Q (ix2 s d)) ((D.x b s d * D.x b s d : ℝ) : EReal))
    (hsx : Is sx (D.sx b)) (hsh : Is sh (D.sh b)) :
    ∃ fa fb fk, Coef D b (dA A X Q sx sh) (dB A X Hh P Q sx sh) (dK A X Hh P Q sx sh) (dAl A X Q sx sh) (dBe A X Q sx sh) fa fb fk :=
  coef D b hA hX hH hP hQ hsx hsh rfl rfl rfl rfl rfl rfl rfl rfl

theorem cols {D : Data 128} {b : Fin 2} {sy a bc k al be : FVec Ideal S1x128 .f32} (hsy : Is sy (D.sy b)) (h : ∃ fa fb fk, Coef D b a bc k al be fa fb fk) :
    Cols D b (kcol sy) (kcol a) (kcol bc) (kcol k) := by
  obtain ⟨fa, fb, fk, C⟩ := h
  exact ⟨fun s j => (kcol_at _ s j).trans (hsy s), fa, fb, fk, fun s j => (kcol_at _ s j).trans (C.ha s), fun s j => (kcol_at _ s j).trans (C.hb s), fun s j => (kcol_at _ s j).trans (C.hk s), C.dx⟩

/-! ## Stores of the results -/
theorem covC0 {D : Data 128} {m16 : Memref sig .tc .vmem S128x2432 .f32} {L : List (View.Piece (Elt Ideal) S128x2432 .f32)} {ci : FVec Ideal S128x128 .f32}
    (hL : Cov rk (Vm D ⟨0, by decide⟩) 76 L) (hc : ∀ s j, @Eq EReal (ci (ix2 s j)) ((1 / D.scl ⟨0, by decide⟩ s : ℝ) : EReal)) (N : ℕ) (hn : N < 76)
    {M : List (View.Piece (Elt Ideal) S2x128x2432 .fp8e5m2)} (h : Cov rk3 (Cm D) N M) :
    Cov rk3 (Cm D) (N + 1) ((⟨Rect.unit (s := S2x128x2432) ![0, 32 * (N / 19), 128 * (N % 19)] S1x32x128.size (inbT 0 N (by decide) hn), shapeCast S1x32x128 (Ct m16 L ci N hn) (by decide)⟩ : View.Piece (Elt Ideal) S2x128x2432 .fp8e5m2) :: M) :=
  covC 0 N N (by omega) (by decide) hn hL hc h
theorem covC1 {D : Data 128} {m16 : Memref sig .tc .vmem S128x2432 .f32} {L : List (View.Piece (Elt Ideal) S128x2432 .f32)} {ci : FVec Ideal S128x128 .f32}
    (hL : Cov rk (Vm D ⟨1, by decide⟩) 76 L) (hc : ∀ s j, @Eq EReal (ci (ix2 s j)) ((1 / D.scl ⟨1, by decide⟩ s : ℝ) : EReal)) (N : ℕ) (hN : 76 ≤ N) (hn : N - 76 < 76)
    {M : List (View.Piece (Elt Ideal) S2x128x2432 .fp8e5m2)} (h : Cov rk3 (Cm D) N M) :
    Cov rk3 (Cm D) (N + 1) ((⟨Rect.unit (s := S2x128x2432) ![1, 32 * ((N - 76) / 19), 128 * ((N - 76) % 19)] S1x32x128.size (inbT 1 (N - 76) (by decide) hn), shapeCast S1x32x128 (Ct m16 L ci (N - 76) hn) (by decide)⟩ : View.Piece (Elt Ideal) S2x128x2432 .fp8e5m2) :: M) :=
  covC 1 (N - 76) N (by omega) (by decide) hn hL hc h

def rk0 {s : Shape} (h : 0 < s.rank) (y : s.Idx) : ℕ := (y ⟨0, h⟩).val

def Sm (D : Data 128) : Vec Ideal S2x128 .f32 := fun y => ((D.scl (y 0) (y 1) : ℝ) : EReal)
def Bm (D : Data 128) : Vec Ideal S2x1x3x2432 .f32 := fun y => D.out (y 0) (y 2) (y 3)
def Dm (D : Data 128) (z : Vec Ideal S2x3x2432 .f32) : Vec Ideal S2x3x2432 .f32 := fun y => (z y + D.out (y 0) (y 1) (y 2) : EReal)
def Dm0 (D : Data 128) : Vec Ideal S2x3x2432 .f32 := fun y => D.out (y 0) (y 1) (y 2)

theorem covS {D : Data 128} (b : ℕ) (hb : b < 2) {w : FVec Ideal S1x128 .f32} (hw : Is w (D.scl ⟨b, hb⟩)) {L : List (View.Piece (Elt Ideal) S2x128 .f32)} (h : Cov (rk0 (by decide)) (Sm D) b L) :
    Cov (rk0 (by decide)) (Sm D) (b + 1) ((⟨Rect.unit (s := S2x128) ![b, 0] S1x128.size (inbR b hb), w⟩ : View.Piece (Elt Ideal) S2x128 .f32) :: L) := by
  refine Cov.step _ _ (fun x => ?_) (fun y hy => ?_) h
  · obtain ⟨i, rfl⟩ : ∃ i : Fin 128, x = ix2 0 i := by
      refine ⟨x 1, funext fun a => ?_⟩
      fin_cases a
      · exact Subsingleton.elim (α := Fin 1) _ _
      · rfl
    refine (hw i).trans ?_
    refine congrArg (Sm D) (a₁ := ix2 ⟨b, hb⟩ i) (funext fun a => Fin.ext ?_)
    fin_cases a
    · show b = b + 1 * 0; omega
    · show i.val = 0 + 1 * i.val; omega
  · rw [Rect.mem_set_unit]
    have hy' : (y 0).val = b := hy
    have h1 : (y 1).val < 128 := (y 1).isLt
    intro a; fin_cases a
    · show b ≤ (y 0).val ∧ (y 0).val < b + 1; omega
    · show 0 ≤ (y 1).val ∧ (y 1).val < 0 + 128; omega

theorem inb4 (b : ℕ) (hb : b < 2) : ∀ a, (![b, 0, 0, 0] : Fin 4 → ℕ) a + S1x1x3x2432.size a ≤ S2x1x3x2432.size a := by
  intro a; fin_cases a
  · show b + 1 ≤ 2; omega
  · show 0 + 1 ≤ 1; omega
  · show 0 + 3 ≤ 3; omega
  · show 0 + 2432 ≤ 2432; omega

theorem covB {D : Data 128} (b : ℕ) (hb : b < 2) {w : FVec Ideal S3x2432 .f32} (hw : ∀ i d, @Eq EReal (w (ix2 i d)) (D.out ⟨b, hb⟩ i d))
    {L : List (View.Piece (Elt Ideal) S2x1x3x2432 .f32)} (h : Cov (rk0 (by decide)) (Bm D) b L) :
    Cov (rk0 (by decide)) (Bm D) (b + 1) ((⟨Rect.unit (s := S2x1x3x2432) ![b, 0, 0, 0] S1x1x3x2432.size (inb4 b hb), shapeCast S1x1x3x2432 w shapeCasts_S3x2432_S1x1x3x2432⟩ :
      View.Piece (Elt Ideal) S2x1x3x2432 .f32) :: L) := by
  refine Cov.step _ _ (fun x => ?_) (fun y hy => ?_) h
  · obtain ⟨i, j, rfl⟩ : ∃ (i : Fin 3) (j : Fin 2432), x = ix4 0 0 i j := by
      refine ⟨x 2, x 3, funext fun a => ?_⟩
      fin_cases a
      · exact Subsingleton.elim (α := Fin 1) _ _
      · exact Subsingleton.elim (α := Fin 1) _ _
      · rfl
      · rfl
    have e : @Eq EReal ((shapeCast S1x1x3x2432 w shapeCasts_S3x2432_S1x1x3x2432 : FVec Ideal S1x1x3x2432 .f32) (ix4 0 0 i j)) (w (ix2 i j)) := by pointwise []
    refine e.trans ((hw i j).trans ?_)
    refine congrArg (Bm D) (a₁ := ix4 ⟨b, hb⟩ 0 i j) (funext fun a => Fin.ext ?_)
    fin_cases a
    · show b = b + 1 * 0; omega
    · rfl
    · show i.val = 0 + 1 * i.val; omega
    · show j.val = 0 + 1 * j.val; omega
  · rw [Rect.mem_set_unit]
    have hy' : (y 0).val = b := hy
    have h1 : (y 1).val < 1 := (y 1).isLt
    have h2 : (y 2).val < 3 := (y 2).isLt
    have h3 : (y 3).val < 2432 := (y 3).isLt
    intro a; fin_cases a
    · show b ≤ (y 0).val ∧ (y 0).val < b + 1; omega
    · show 0 ≤ (y 1).val ∧ (y 1).val < 0 + 1; omega
    · show 0 ≤ (y 2).val ∧ (y 2).val < 0 + 3; omega
    · show 0 ≤ (y 3).val ∧ (y 3).val < 0 + 2432; omega

theorem inb3 (b : ℕ) (hb : b < 2) : ∀ a, (![b, 0, 0] : Fin 3 → ℕ) a + S1x3x2432.size a ≤ S2x3x2432.size a := by
  intro a; fin_cases a
  · show b + 1 ≤ 2; omega
  · show 0 + 3 ≤ 3; omega
  · show 0 + 2432 ≤ 2432; omega

theorem covD {G : Vec Ideal S2x3x2432 .f32} (b : ℕ) (hb : b < 2) {w : FVec Ideal S3x2432 .f32} (hw : ∀ i d, @Eq EReal (w (ix2 i d)) (G (ix3 ⟨b, hb⟩ i d)))
    {L : List (View.Piece (Elt Ideal) S2x3x2432 .f32)} (h : Cov (rk0 (by decide)) G b L) :
    Cov (rk0 (by decide)) G (b + 1) ((⟨Rect.unit (s := S2x3x2432) ![b, 0, 0] S1x3x2432.size (inb3 b hb), shapeCast S1x3x2432 w shapeCasts_S3x2432_S1x3x2432⟩ :
      View.Piece (Elt Ideal) S2x3x2432 .f32) :: L) := by
  refine Cov.step _ _ (fun x => ?_) (fun y hy => ?_) h
  · obtain ⟨i, j, rfl⟩ : ∃ (i : Fin 3) (j : Fin 2432), x = ix3 0 i j := by
      refine ⟨x 1, x 2, funext fun a => ?_⟩
      fin_cases a
      · exact Subsingleton.elim (α := Fin 1) _ _
      · rfl
      · rfl
    have e : @Eq EReal ((shapeCast S1x3x2432 w shapeCasts_S3x2432_S1x3x2432 : FVec Ideal S1x3x2432 .f32) (ix3 0 i j)) (w (ix2 i j)) := by pointwise []
    refine e.trans ((hw i j).trans ?_)
    refine congrArg G (a₁ := ix3 ⟨b, hb⟩ i j) (funext fun a => Fin.ext ?_)
    fin_cases a
    · show b = b + 1 * 0; omega
    · show i.val = 0 + 1 * i.val; omega
    · show j.val = 0 + 1 * j.val; omega
  · rw [Rect.mem_set_unit]
    have hy' : (y 0).val = b := hy
    have h2 : (y 1).val < 3 := (y 1).isLt
    have h3 : (y 2).val < 2432 := (y 2).isLt
    intro a; fin_cases a
    · show b ≤ (y 0).val ∧ (y 0).val < b + 1; omega
    · show 0 ≤ (y 1).val ∧ (y 1).val < 0 + 3; omega
    · show 0 ≤ (y 2).val ∧ (y 2).val < 0 + 2432; omega

/-- A batch of the sums so far. -/
def ld8 (m : Memref sig .tc .vmem S2x3x2432 .f32) (hm : m.IsWhole) (X : Vec Ideal S2x3x2432 .f32) (b : ℕ) (hb : b < 2) : Vec Ideal S1x3x2432 .f32 :=
  View.readAt (Elt Ideal) m.view (Rect.unit (s := S2x3x2432) ![b, 0, 0] S1x3x2432.size (inb3 b hb)).toLoadRect (hm.unread X)
def add8 (v : Vec Ideal S1x3x2432 .f32) (w : FVec Ideal S3x2432 .f32) : FVec Ideal S3x2432 .f32 := addf (shapeCast S3x2432 v shapeCasts_S1x3x2432_S3x2432) w
theorem add8_at {D : Data 128} {m : Memref sig .tc .vmem S2x3x2432 .f32} {hm : m.IsWhole} {X : Vec Ideal S2x3x2432 .f32} (b : ℕ) (hb : b < 2)
    {w : FVec Ideal S3x2432 .f32} (hw : ∀ i d, @Eq EReal (w (ix2 i d)) (D.out ⟨b, hb⟩ i d)) (i : Fin 3) (d : Fin 2432) :
    @Eq EReal (add8 (ld8 m hm X b hb) w (ix2 i d)) (Dm D X (ix3 ⟨b, hb⟩ i d)) := by
  have e : ∀ v : Vec Ideal S1x3x2432 .f32, @Eq EReal ((shapeCast S3x2432 v shapeCasts_S1x3x2432_S3x2432 : FVec Ideal S3x2432 .f32) (ix2 i d)) (v (ix3 0 i d)) := by
    intro v; pointwise []
  show ((shapeCast S3x2432 (ld8 m hm X b hb) shapeCasts_S1x3x2432_S3x2432 : FVec Ideal S3x2432 .f32) (ix2 i d) : EReal) + w (ix2 i d) = _
  rw [e, hw]
  have e2 : ld8 m hm X b hb (ix3 0 i d) = X (ix3 ⟨b, hb⟩ i d) := by
    unfold ld8
    rw [View.readAt_apply, hm.read_unread]
    refine congrArg X (funext fun a => Fin.ext ?_)
    fin_cases a
    · show b + 1 * 0 = b; omega
    · show 0 + 1 * i.val = i.val; omega
    · show 0 + 1 * d.val = d.val; omega
  rw [e2]
  rfl

theorem Cov.two {s : Shape} {e : EltTy} {h0 : 0 < s.rank} {G : s.Idx → Elt Ideal e} {L : List (View.Piece (Elt Ideal) s e)} (h : Cov (rk0 h0) G 2 L) (hs : s.size ⟨0, h0⟩ = 2) (y : s.Idx) :
    View.canon L y = G y :=
  h y (lt_of_lt_of_eq (y ⟨0, h0⟩).isLt hs)

end Cert.Ker
end
-- ==== Proof.KA01.lean ====
module

public import proofs.«01_k».proof.Proof.Gen.KernelIdeal.Frame
public import proofs.«01_k».proof.Proof.Ker5

@[expose] public section
set_option maxRecDepth 16384
noncomputable section

/-! Stores of the kernel, one by one. -/
namespace Cert.Ker
open Cert.KernelIdeal Cert.KernelIdeal.Gen Idealize.ShloMosaic
open Cert.Mth

variable {D : Data 128} {x0 : Vec Ideal S2x128x2432 .fp8e4m3} {x1 : Vec Ideal S2x128 .f32} {x2 : Vec Ideal S2x128x2432 .bf16}
    {x3 : Vec Ideal S2x128x2432 .fp8e5m2} {x4 : Vec Ideal S2x128 .f32} {x5 : Vec Ideal S2x128x2432 .fp8e5m2} {x6 : Vec Ideal S2x128 .f32}
    {x7 : Vec Ideal S2x2432 .f32}
  {m1 : Memref sig .tc .vmem S2x128x2432 .fp8e4m3} {g1 : m1.IsWhole} {m2 : Memref sig .tc .vmem S2x128 .f32} {g2 : m2.IsWhole}
  {m3 : Memref sig .tc .vmem S2x128x2432 .bf16} {g3 : m3.IsWhole} {m4 : Memref sig .tc .vmem S2x128x2432 .fp8e5m2} {g4 : m4.IsWhole}
  {m5 : Memref sig .tc .vmem S2x128 .f32} {g5 : m5.IsWhole} {m6 : Memref sig .tc .vmem S2x128x2432 .fp8e5m2} {g6 : m6.IsWhole}
  {m7 : Memref sig .tc .vmem S2x128 .f32} {g7 : m7.IsWhole} {m8 : Memref sig .tc .vmem S2x2432 .f32} {g8 : m8.IsWhole}
  {m13 : Memref sig .tc .vmem S16x2432 .bf16} {m14 m15 : Memref sig .tc .vmem S128x2432 .bf16} {m16 : Memref sig .tc .vmem S128x2432 .f32} {m17 : Memref sig .tc .vmem S8x2432 .f32} {c : Dev nD}

theorem hs1A0 (H : Holds D x0 x1 x2 x3 x4 x5 x6 x7) : Cov rk (Pm D ⟨0, by decide⟩) 76 (kernelRun0_A.sl.HS1_76 (F := Ideal) c m1 g1 m6 g6 x0 x5) := by
  iterate 76 refine covP H 0 _ (by decide) (by decide) ?_
  exact Cov.zero _ _ _
theorem hs2A0 (H : Holds D x0 x1 x2 x3 x4 x5 x6 x7) : Cov rk (Qm D ⟨0, by decide⟩) 76 (kernelRun0_A.sl.HS2_76 (F := Ideal) c m1 g1 x0) := by
  iterate 76 refine covQ H 0 _ (by decide) (by decide) ?_
  exact Cov.zero _ _ _
theorem w16A0 (H : Holds D x0 x1 x2 x3 x4 x5 x6 x7) : Wok (kernelRun0_A.sl.v1080 (F := Ideal) c m8 g8 m13 x7) (D.w ⟨0, by decide⟩) := by
  have e : (kernelRun0_A.sl.v1080 (F := Ideal) c m8 g8 m13 x7) = Wm (ldV m8 g8 x7 0 (by decide)) := readW m13.view _ _
  rw [e]
  exact Wm_ok fun d => (ldV_at _ _ _ _ _ _).trans (H.w _ _)
theorem pA0 (H : Holds D x0 x1 x2 x3 x4 x5 x6 x7) (s : Fin 128) (d : Fin 2432) : @Eq EReal ((kernelRun0_A.sl.v1089 (F := Ideal) c m1 g1 m6 g6 m14 x0 x5) (ix2 s d)) ((D.x ⟨0, by decide⟩ s d * D.h ⟨0, by decide⟩ s d : ℝ) : EReal) := readAll m14.view (hs1A0 H) (ix2 s d)
theorem qA0 (H : Holds D x0 x1 x2 x3 x4 x5 x6 x7) (s : Fin 128) (d : Fin 2432) : @Eq EReal ((kernelRun0_A.sl.v1087 (F := Ideal) c m1 g1 m15 x0) (ix2 s d)) ((D.x ⟨0, by decide⟩ s d * D.x ⟨0, by decide⟩ s d : ℝ) : EReal) := readAll m15.view (hs2A0 H) (ix2 s d)
theorem coefA0 (H : Holds D x0 x1 x2 x3 x4 x5 x6 x7) : ∃ fa fb fk, Coef D ⟨0, by decide⟩ (dA (kernelRun0_A.sl.v1080 (F := Ideal) c m8 g8 m13 x7) (FX m1 g1 x0 0 (by decide)) (kernelRun0_A.sl.v1087 (F := Ideal) c m1 g1 m15 x0) (ldR m2 g2 x1 0 (by decide)) (ldR m7 g7 x6 0 (by decide))) (dB (kernelRun0_A.sl.v1080 (F := Ideal) c m8 g8 m13 x7) (FX m1 g1 x0 0 (by decide)) (FH m6 g6 x5 0 (by decide)) (kernelRun0_A.sl.v1089 (F := Ideal) c m1 g1 m6 g6 m14 x0 x5) (kernelRun0_A.sl.v1087 (F := Ideal) c m1 g1 m15 x0) (ldR m2 g2 x1 0 (by decide)) (ldR m7 g7 x6 0 (by decide))) (dK (kernelRun0_A.sl.v1080 (F := Ideal) c m8 g8 m13 x7) (FX m1 g1 x0 0 (by decide)) (FH m6 g6 x5 0 (by decide)) (kernelRun0_A.sl.v1089 (F := Ideal) c m1 g1 m6 g6 m14 x0 x5) (kernelRun0_A.sl.v1087 (F := Ideal) c m1 g1 m15 x0) (ldR m2 g2 x1 0 (by decide)) (ldR m7 g7 x6 0 (by decide))) (kernelRun0_A.sl.r_9 (F := Ideal) c m1 g1 m2 g2 m7 g7 m8 g8 m13 m15 x0 x1 x6 x7) (kernelRun0_A.sl.r_10 (F := Ideal) c m1 g1 m2 g2 m7 g7 m8 g8 m13 m15 x0 x1 x6 x7) fa fb fk := by
  have e1 : (kernelRun0_A.sl.r_9 (F := Ideal) c m1 g1 m2 g2 m7 g7 m8 g8 m13 m15 x0 x1 x6 x7) = dAl (kernelRun0_A.sl.v1080 (F := Ideal) c m8 g8 m13 x7) (FX m1 g1 x0 0 (by decide)) (kernelRun0_A.sl.v1087 (F := Ideal) c m1 g1 m15 x0) (ldR m2 g2 x1 0 (by decide)) (ldR m7 g7 x6 0 (by decide)) := rfl
  have e2 : (kernelRun0_A.sl.r_10 (F := Ideal) c m1 g1 m2 g2 m7 g7 m8 g8 m13 m15 x0 x1 x6 x7) = dBe (kernelRun0_A.sl.v1080 (F := Ideal) c m8 g8 m13 x7) (FX m1 g1 x0 0 (by decide)) (kernelRun0_A.sl.v1087 (F := Ideal) c m1 g1 m15 x0) (ldR m2 g2 x1 0 (by decide)) (ldR m7 g7 x6 0 (by decide)) := rfl
  rw [e1, e2]
  exact coef' D ⟨0, by decide⟩ (w16A0 H) (fun s d => (FX_at _ _ _ _ _ s d).trans (H.x _ _ _)) (fun s d => (FH_at _ _ _ _ _ s d).trans (H.h _ _ _)) (pA0 H) (qA0 H)
    (fun s => (ldR_at _ _ _ _ _ s).trans (H.sx _ _)) (fun s => (ldR_at _ _ _ _ _ s).trans (H.sh _ _))
theorem colsA0 (H : Holds D x0 x1 x2 x3 x4 x5 x6 x7) : Cols D ⟨0, by decide⟩ (kernelRun0_A.sl.r_11 (F := Ideal) c m5 g5 x4) (kernelRun0_A.sl.r_12 (F := Ideal) c m1 g1 m2 g2 m7 g7 m8 g8 m13 m15 x0 x1 x6 x7) (kernelRun0_A.sl.r_13 (F := Ideal) c m1 g1 m2 g2 m6 g6 m7 g7 m8 g8 m13 m14 m15 x0 x1 x5 x6 x7) (kernelRun0_A.sl.r_14 (F := Ideal) c m1 g1 m2 g2 m6 g6 m7 g7 m8 g8 m13 m14 m15 x0 x1 x5 x6 x7) := by
  have e0 : (kernelRun0_A.sl.r_11 (F := Ideal) c m5 g5 x4) = kcol (ldR m5 g5 x4 0 (by decide)) := rfl
  have e1 : (kernelRun0_A.sl.r_12 (F := Ideal) c m1 g1 m2 g2 m7 g7 m8 g8 m13 m15 x0 x1 x6 x7) = kcol (dA (kernelRun0_A.sl.v1080 (F := Ideal) c m8 g8 m13 x7) (FX m1 g1 x0 0 (by decide)) (kernelRun0_A.sl.v1087 (F := Ideal) c m1 g1 m15 x0) (ldR m2 g2 x1 0 (by decide)) (ldR m7 g7 x6 0 (by decide))) := rfl
  have e2 : (kernelRun0_A.sl.r_13 (F := Ideal) c m1 g1 m2 g2 m6 g6 m7 g7 m8 g8 m13 m14 m15 x0 x1 x5 x6 x7) = kcol (dB (kernelRun0_A.sl.v1080 (F := Ideal) c m8 g8 m13 x7) (FX m1 g1 x0 0 (by decide)) (FH m6 g6 x5 0 (by decide)) (kernelRun0_A.sl.v1089 (F := Ideal) c m1 g1 m6 g6 m14 x0 x5) (kernelRun0_A.sl.v1087 (F := Ideal) c m1 g1 m15 x0) (ldR m2 g2 x1 0 (by decide)) (ldR m7 g7 x6 0 (by decide))) := rfl
  have e3 : (kernelRun0_A.sl.r_14 (F := Ideal) c m1 g1 m2 g2 m6 g6 m7 g7 m8 g8 m13 m14 m15 x0 x1 x5 x6 x7) = kcol (dK (kernelRun0_A.sl.v1080 (F := Ideal) c m8 g8 m13 x7) (FX m1 g1 x0 0 (by decide)) (FH m6 g6 x5 0 (by decide)) (kernelRun0_A.sl.v1089 (F := Ideal) c m1 g1 m6 g6 m14 x0 x5) (kernelRun0_A.sl.v1087 (F := Ideal) c m1 g1 m15 x0) (ldR m2 g2 x1 0 (by decide)) (ldR m7 g7 x6 0 (by decide))) := rfl
  rw [e0, e1, e2, e3]
  exact cols (fun s => (ldR_at _ _ _ _ _ s).trans (H.sy _ _)) (coefA0 H)

end Cert.Ker
end
-- ==== Proof.KA02.lean ====
module

public import proofs.«01_k».proof.Proof.Gen.KernelIdeal.Frame
public import proofs.«01_k».proof.Proof.KA01

@[expose] public section
set_option maxRecDepth 16384
noncomputable section

/-! Stores of the kernel, one by one. -/
namespace Cert.Ker
open Cert.KernelIdeal Cert.KernelIdeal.Gen Idealize.ShloMosaic
open Cert.Mth

variable {D : Data 128} {x0 : Vec Ideal S2x128x2432 .fp8e4m3} {x1 : Vec Ideal S2x128 .f32} {x2 : Vec Ideal S2x128x2432 .bf16}
    {x3 : Vec Ideal S2x128x2432 .fp8e5m2} {x4 : Vec Ideal S2x128 .f32} {x5 : Vec Ideal S2x128x2432 .fp8e5m2} {x6 : Vec Ideal S2x128 .f32}
    {x7 : Vec Ideal S2x2432 .f32}
  {m1 : Memref sig .tc .vmem S2x128x2432 .fp8e4m3} {g1 : m1.IsWhole} {m2 : Memref sig .tc .vmem S2x128 .f32} {g2 : m2.IsWhole}
  {m3 : Memref sig .tc .vmem S2x128x2432 .bf16} {g3 : m3.IsWhole} {m4 : Memref sig .tc .vmem S2x128x2432 .fp8e5m2} {g4 : m4.IsWhole}
  {m5 : Memref sig .tc .vmem S2x128 .f32} {g5 : m5.IsWhole} {m6 : Memref sig .tc .vmem S2x128x2432 .fp8e5m2} {g6 : m6.IsWhole}
  {m7 : Memref sig .tc .vmem S2x128 .f32} {g7 : m7.IsWhole} {m8 : Memref sig .tc .vmem S2x2432 .f32} {g8 : m8.IsWhole}
  {m13 : Memref sig .tc .vmem S16x2432 .bf16} {m14 m15 : Memref sig .tc .vmem S128x2432 .bf16} {m16 : Memref sig .tc .vmem S128x2432 .f32} {m17 : Memref sig .tc .vmem S8x2432 .f32} {c : Dev nD}

theorem hs3A0 (H : Holds D x0 x1 x2 x3 x4 x5 x6 x7) : Cov rk (Vm D ⟨0, by decide⟩) 76 (kernelRun0_A.sl.HS3_76 (F := Ideal) c m1 g1 m2 g2 m4 g4 m5 g5 m6 g6 m7 g7 m8 g8 m13 m14 m15 x0 x1 x3 x4 x5 x6 x7) := by
  have C := colsA0 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 76 refine covV H 0 _ (by decide) (by decide) C ?_
  exact Cov.zero _ _ _
theorem hs4A0 (H : Holds D x0 x1 x2 x3 x4 x5 x6 x7) : GI D ⟨0, by decide⟩ 76 (kernelRun0_A.sl.HS4_77 (F := Ideal) c m3 g3 m4 g4 m5 g5 m17 x2 x3 x4) := by
  have C : ∀ s j, @Eq EReal ((kernelRun0_A.sl.r_11 (F := Ideal) c m5 g5 x4) (ix2 s j)) (D.sy ⟨0, by decide⟩ s) := fun s j => (kcol_at _ s j).trans ((ldR_at _ _ _ _ _ s).trans (H.sy _ _))
  iterate 76 refine GI.step H 0 _ (by decide) (by decide) C ?_
  exact GI.zero _ _
theorem mxA0_0 (H : Holds D x0 x1 x2 x3 x4 x5 x6 x7) : MI D ⟨0, by decide⟩ 0 19 (kernelRun0_A.sl.v1940 (F := Ideal) c m1 g1 m2 g2 m4 g4 m5 g5 m6 g6 m7 g7 m8 g8 m13 m14 m15 x0 x1 x3 x4 x5 x6 x7) := by
  have C := colsA0 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 19 refine MI.step H 0 0 _ (by decide) (by decide) C ?_
  exact MI.zero _ _
theorem mxA0_1 (H : Holds D x0 x1 x2 x3 x4 x5 x6 x7) : MI D ⟨0, by decide⟩ 1 19 (kernelRun0_A.sl.v2701 (F := Ideal) c m1 g1 m2 g2 m4 g4 m5 g5 m6 g6 m7 g7 m8 g8 m13 m14 m15 x0 x1 x3 x4 x5 x6 x7) := by
  have C := colsA0 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 19 refine MI.step H 0 1 _ (by decide) (by decide) C ?_
  exact MI.zero _ _
theorem mxA0_2 (H : Holds D x0 x1 x2 x3 x4 x5 x6 x7) : MI D ⟨0, by decide⟩ 2 19 (kernelRun0_A.sl.v3462 (F := Ideal) c m1 g1 m2 g2 m4 g4 m5 g5 m6 g6 m7 g7 m8 g8 m13 m14 m15 x0 x1 x3 x4 x5 x6 x7) := by
  have C := colsA0 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 19 refine MI.step H 0 2 _ (by decide) (by decide) C ?_
  exact MI.zero _ _
theorem mxA0_3 (H : Holds D x0 x1 x2 x3 x4 x5 x6 x7) : MI D ⟨0, by decide⟩ 3 19 (kernelRun0_A.sl.v4223 (F := Ideal) c m1 g1 m2 g2 m4 g4 m5 g5 m6 g6 m7 g7 m8 g8 m13 m14 m15 x0 x1 x3 x4 x5 x6 x7) := by
  have C := colsA0 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 19 refine MI.step H 0 3 _ (by decide) (by decide) C ?_
  exact MI.zero _ _
theorem yA0 (H : Holds D x0 x1 x2 x3 x4 x5 x6 x7) : Is (kernelRun0_A.sl.r_22 (F := Ideal) c m1 g1 m2 g2 m4 g4 m5 g5 m6 g6 m7 g7 m8 g8 m13 m14 m15 x0 x1 x3 x4 x5 x6 x7) fun s => rowY (D.g ⟨0, by decide⟩ s) := kY_is (mxA0_0 H) (mxA0_1 H) (mxA0_2 H) (mxA0_3 H)
theorem sA0 (H : Holds D x0 x1 x2 x3 x4 x5 x6 x7) (G : D.Good) : Is (kernelRun0_A.sl.v4311 (F := Ideal) c m1 g1 m2 g2 m4 g4 m5 g5 m6 g6 m7 g7 m8 g8 m13 m14 m15 x0 x1 x3 x4 x5 x6 x7) (D.scl ⟨0, by decide⟩) :=
  kscl_is (yA0 H) (fun s => rowY_nonneg _) (fun s => rowY_lt _ (G.abs_g ⟨0, by decide⟩ s))
theorem iA0 (H : Holds D x0 x1 x2 x3 x4 x5 x6 x7) (G : D.Good) (s j : Fin 128) : @Eq EReal ((kernelRun0_A.sl.v4320 (F := Ideal) c m1 g1 m2 g2 m4 g4 m5 g5 m6 g6 m7 g7 m8 g8 m13 m14 m15 x0 x1 x3 x4 x5 x6 x7) (ix2 s j)) ((1 / D.scl ⟨0, by decide⟩ s : ℝ) : EReal) :=
  (kcol_at _ s j).trans (kinvs_is (yA0 H) (fun s => rowY_nonneg _) (fun s => rowY_lt _ (G.abs_g ⟨0, by decide⟩ s)) s)

end Cert.Ker
end
-- ==== Proof.KA11.lean ====
module

public import proofs.«01_k».proof.Proof.Gen.KernelIdeal.Frame
public import proofs.«01_k».proof.Proof.Ker5

@[expose] public section
set_option maxRecDepth 16384
noncomputable section

/-! Stores of the kernel, one by one. -/
namespace Cert.Ker
open Cert.KernelIdeal Cert.KernelIdeal.Gen Idealize.ShloMosaic
open Cert.Mth

variable {D : Data 128} {x0 : Vec Ideal S2x128x2432 .fp8e4m3} {x1 : Vec Ideal S2x128 .f32} {x2 : Vec Ideal S2x128x2432 .bf16}
    {x3 : Vec Ideal S2x128x2432 .fp8e5m2} {x4 : Vec Ideal S2x128 .f32} {x5 : Vec Ideal S2x128x2432 .fp8e5m2} {x6 : Vec Ideal S2x128 .f32}
    {x7 : Vec Ideal S2x2432 .f32}
  {m1 : Memref sig .tc .vmem S2x128x2432 .fp8e4m3} {g1 : m1.IsWhole} {m2 : Memref sig .tc .vmem S2x128 .f32} {g2 : m2.IsWhole}
  {m3 : Memref sig .tc .vmem S2x128x2432 .bf16} {g3 : m3.IsWhole} {m4 : Memref sig .tc .vmem S2x128x2432 .fp8e5m2} {g4 : m4.IsWhole}
  {m5 : Memref sig .tc .vmem S2x128 .f32} {g5 : m5.IsWhole} {m6 : Memref sig .tc .vmem S2x128x2432 .fp8e5m2} {g6 : m6.IsWhole}
  {m7 : Memref sig .tc .vmem S2x128 .f32} {g7 : m7.IsWhole} {m8 : Memref sig .tc .vmem S2x2432 .f32} {g8 : m8.IsWhole}
  {m13 : Memref sig .tc .vmem S16x2432 .bf16} {m14 m15 : Memref sig .tc .vmem S128x2432 .bf16} {m16 : Memref sig .tc .vmem S128x2432 .f32} {m17 : Memref sig .tc .vmem S8x2432 .f32} {c : Dev nD}

theorem hs1A1 (H : Holds D x0 x1 x2 x3 x4 x5 x6 x7) : Cov rk (Pm D ⟨1, by decide⟩) 76 (kernelRun0_A.sl.HS1_152 (F := Ideal) c m1 g1 m6 g6 x0 x5) := by
  iterate 76 refine covP H 1 _ (by decide) (by decide) ?_
  exact Cov.zero _ _ _
theorem hs2A1 (H : Holds D x0 x1 x2 x3 x4 x5 x6 x7) : Cov rk (Qm D ⟨1, by decide⟩) 76 (kernelRun0_A.sl.HS2_152 (F := Ideal) c m1 g1 x0) := by
  iterate 76 refine covQ H 1 _ (by decide) (by decide) ?_
  exact Cov.zero _ _ _
theorem w16A1 (H : Holds D x0 x1 x2 x3 x4 x5 x6 x7) : Wok (kernelRun0_A.sl.v6296 (F := Ideal) c m8 g8 m13 x7) (D.w ⟨1, by decide⟩) := by
  have e : (kernelRun0_A.sl.v6296 (F := Ideal) c m8 g8 m13 x7) = Wm (ldV m8 g8 x7 1 (by decide)) := readW m13.view _ _
  rw [e]
  exact Wm_ok fun d => (ldV_at _ _ _ _ _ _).trans (H.w _ _)
theorem pA1 (H : Holds D x0 x1 x2 x3 x4 x5 x6 x7) (s : Fin 128) (d : Fin 2432) : @Eq EReal ((kernelRun0_A.sl.v6305 (F := Ideal) c m1 g1 m6 g6 m14 x0 x5) (ix2 s d)) ((D.x ⟨1, by decide⟩ s d * D.h ⟨1, by decide⟩ s d : ℝ) : EReal) := readAll m14.view (hs1A1 H) (ix2 s d)
theorem qA1 (H : Holds D x0 x1 x2 x3 x4 x5 x6 x7) (s : Fin 128) (d : Fin 2432) : @Eq EReal ((kernelRun0_A.sl.v6303 (F := Ideal) c m1 g1 m15 x0) (ix2 s d)) ((D.x ⟨1, by decide⟩ s d * D.x ⟨1, by decide⟩ s d : ℝ) : EReal) := readAll m15.view (hs2A1 H) (ix2 s d)
theorem coefA1 (H : Holds D x0 x1 x2 x3 x4 x5 x6 x7) : ∃ fa fb fk, Coef D ⟨1, by decide⟩ (dA (kernelRun0_A.sl.v6296 (F := Ideal) c m8 g8 m13 x7) (FX m1 g1 x0 1 (by decide)) (kernelRun0_A.sl.v6303 (F := Ideal) c m1 g1 m15 x0) (ldR m2 g2 x1 1 (by decide)) (ldR m7 g7 x6 1 (by decide))) (dB (kernelRun0_A.sl.v6296 (F := Ideal) c m8 g8 m13 x7) (FX m1 g1 x0 1 (by decide)) (FH m6 g6 x5 1 (by decide)) (kernelRun0_A.sl.v6305 (F := Ideal) c m1 g1 m6 g6 m14 x0 x5) (kernelRun0_A.sl.v6303 (F := Ideal) c m1 g1 m15 x0) (ldR m2 g2 x1 1 (by decide)) (ldR m7 g7 x6 1 (by decide))) (dK (kernelRun0_A.sl.v6296 (F := Ideal) c m8 g8 m13 x7) (FX m1 g1 x0 1 (by decide)) (FH m6 g6 x5 1 (by decide)) (kernelRun0_A.sl.v6305 (F := Ideal) c m1 g1 m6 g6 m14 x0 x5) (kernelRun0_A.sl.v6303 (F := Ideal) c m1 g1 m15 x0) (ldR m2 g2 x1 1 (by decide)) (ldR m7 g7 x6 1 (by decide))) (kernelRun0_A.sl.r_38 (F := Ideal) c m1 g1 m2 g2 m7 g7 m8 g8 m13 m15 x0 x1 x6 x7) (kernelRun0_A.sl.r_39 (F := Ideal) c m1 g1 m2 g2 m7 g7 m8 g8 m13 m15 x0 x1 x6 x7) fa fb fk := by
  have e1 : (kernelRun0_A.sl.r_38 (F := Ideal) c m1 g1 m2 g2 m7 g7 m8 g8 m13 m15 x0 x1 x6 x7) = dAl (kernelRun0_A.sl.v6296 (F := Ideal) c m8 g8 m13 x7) (FX m1 g1 x0 1 (by decide)) (kernelRun0_A.sl.v6303 (F := Ideal) c m1 g1 m15 x0) (ldR m2 g2 x1 1 (by decide)) (ldR m7 g7 x6 1 (by decide)) := rfl
  have e2 : (kernelRun0_A.sl.r_39 (F := Ideal) c m1 g1 m2 g2 m7 g7 m8 g8 m13 m15 x0 x1 x6 x7) = dBe (kernelRun0_A.sl.v6296 (F := Ideal) c m8 g8 m13 x7) (FX m1 g1 x0 1 (by decide)) (kernelRun0_A.sl.v6303 (F := Ideal) c m1 g1 m15 x0) (ldR m2 g2 x1 1 (by decide)) (ldR m7 g7 x6 1 (by decide)) := rfl
  rw [e1, e2]
  exact coef' D ⟨1, by decide⟩ (w16A1 H) (fun s d => (FX_at _ _ _ _ _ s d).trans (H.x _ _ _)) (fun s d => (FH_at _ _ _ _ _ s d).trans (H.h _ _ _)) (pA1 H) (qA1 H)
    (fun s => (ldR_at _ _ _ _ _ s).trans (H.sx _ _)) (fun s => (ldR_at _ _ _ _ _ s).trans (H.sh _ _))
theorem colsA1 (H : Holds D x0 x1 x2 x3 x4 x5 x6 x7) : Cols D ⟨1, by decide⟩ (kernelRun0_A.sl.r_40 (F := Ideal) c m5 g5 x4) (kernelRun0_A.sl.r_41 (F := Ideal) c m1 g1 m2 g2 m7 g7 m8 g8 m13 m15 x0 x1 x6 x7) (kernelRun0_A.sl.r_42 (F := Ideal) c m1 g1 m2 g2 m6 g6 m7 g7 m8 g8 m13 m14 m15 x0 x1 x5 x6 x7) (kernelRun0_A.sl.v6402 (F := Ideal) c m1 g1 m2 g2 m6 g6 m7 g7 m8 g8 m13 m14 m15 x0 x1 x5 x6 x7) := by
  have e0 : (kernelRun0_A.sl.r_40 (F := Ideal) c m5 g5 x4) = kcol (ldR m5 g5 x4 1 (by decide)) := rfl
  have e1 : (kernelRun0_A.sl.r_41 (F := Ideal) c m1 g1 m2 g2 m7 g7 m8 g8 m13 m15 x0 x1 x6 x7) = kcol (dA (kernelRun0_A.sl.v6296 (F := Ideal) c m8 g8 m13 x7) (FX m1 g1 x0 1 (by decide)) (kernelRun0_A.sl.v6303 (F := Ideal) c m1 g1 m15 x0) (ldR m2 g2 x1 1 (by decide)) (ldR m7 g7 x6 1 (by decide))) := rfl
  have e2 : (kernelRun0_A.sl.r_42 (F := Ideal) c m1 g1 m2 g2 m6 g6 m7 g7 m8 g8 m13 m14 m15 x0 x1 x5 x6 x7) = kcol (dB (kernelRun0_A.sl.v6296 (F := Ideal) c m8 g8 m13 x7) (FX m1 g1 x0 1 (by decide)) (FH m6 g6 x5 1 (by decide)) (kernelRun0_A.sl.v6305 (F := Ideal) c m1 g1 m6 g6 m14 x0 x5) (kernelRun0_A.sl.v6303 (F := Ideal) c m1 g1 m15 x0) (ldR m2 g2 x1 1 (by decide)) (ldR m7 g7 x6 1 (by decide))) := rfl
  have e3 : (kernelRun0_A.sl.v6402 (F := Ideal) c m1 g1 m2 g2 m6 g6 m7 g7 m8 g8 m13 m14 m15 x0 x1 x5 x6 x7) = kcol (dK (kernelRun0_A.sl.v6296 (F := Ideal) c m8 g8 m13 x7) (FX m1 g1 x0 1 (by decide)) (FH m6 g6 x5 1 (by decide)) (kernelRun0_A.sl.v6305 (F := Ideal) c m1 g1 m6 g6 m14 x0 x5) (kernelRun0_A.sl.v6303 (F := Ideal) c m1 g1 m15 x0) (ldR m2 g2 x1 1 (by decide)) (ldR m7 g7 x6 1 (by decide))) := rfl
  rw [e0, e1, e2, e3]
  exact cols (fun s => (ldR_at _ _ _ _ _ s).trans (H.sy _ _)) (coefA1 H)

end Cert.Ker
end
-- ==== Proof.KA12.lean ====
module

public import proofs.«01_k».proof.Proof.Gen.KernelIdeal.Frame
public import proofs.«01_k».proof.Proof.KA11

@[expose] public section
set_option maxRecDepth 16384
noncomputable section

/-! Stores of the kernel, one by one. -/
namespace Cert.Ker
open Cert.KernelIdeal Cert.KernelIdeal.Gen Idealize.ShloMosaic
open Cert.Mth

variable {D : Data 128} {x0 : Vec Ideal S2x128x2432 .fp8e4m3} {x1 : Vec Ideal S2x128 .f32} {x2 : Vec Ideal S2x128x2432 .bf16}
    {x3 : Vec Ideal S2x128x2432 .fp8e5m2} {x4 : Vec Ideal S2x128 .f32} {x5 : Vec Ideal S2x128x2432 .fp8e5m2} {x6 : Vec Ideal S2x128 .f32}
    {x7 : Vec Ideal S2x2432 .f32}
  {m1 : Memref sig .tc .vmem S2x128x2432 .fp8e4m3} {g1 : m1.IsWhole} {m2 : Memref sig .tc .vmem S2x128 .f32} {g2 : m2.IsWhole}
  {m3 : Memref sig .tc .vmem S2x128x2432 .bf16} {g3 : m3.IsWhole} {m4 : Memref sig .tc .vmem S2x128x2432 .fp8e5m2} {g4 : m4.IsWhole}
  {m5 : Memref sig .tc .vmem S2x128 .f32} {g5 : m5.IsWhole} {m6 : Memref sig .tc .vmem S2x128x2432 .fp8e5m2} {g6 : m6.IsWhole}
  {m7 : Memref sig .tc .vmem S2x128 .f32} {g7 : m7.IsWhole} {m8 : Memref sig .tc .vmem S2x2432 .f32} {g8 : m8.IsWhole}
  {m13 : Memref sig .tc .vmem S16x2432 .bf16} {m14 m15 : Memref sig .tc .vmem S128x2432 .bf16} {m16 : Memref sig .tc .vmem S128x2432 .f32} {m17 : Memref sig .tc .vmem S8x2432 .f32} {c : Dev nD}

theorem hs3A1 (H : Holds D x0 x1 x2 x3 x4 x5 x6 x7) : Cov rk (Vm D ⟨1, by decide⟩) 76 (kernelRun0_A.sl.HS3_152 (F := Ideal) c m1 g1 m2 g2 m4 g4 m5 g5 m6 g6 m7 g7 m8 g8 m13 m14 m15 x0 x1 x3 x4 x5 x6 x7) := by
  have C := colsA1 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 76 refine covV H 1 _ (by decide) (by decide) C ?_
  exact Cov.zero _ _ _
theorem hs4A1 (H : Holds D x0 x1 x2 x3 x4 x5 x6 x7) : GI D ⟨1, by decide⟩ 76 (kernelRun0_A.sl.HS4_154 (F := Ideal) c m3 g3 m4 g4 m5 g5 m17 x2 x3 x4) := by
  have C : ∀ s j, @Eq EReal ((kernelRun0_A.sl.r_40 (F := Ideal) c m5 g5 x4) (ix2 s j)) (D.sy ⟨1, by decide⟩ s) := fun s j => (kcol_at _ s j).trans ((ldR_at _ _ _ _ _ s).trans (H.sy _ _))
  iterate 76 refine GI.step H 1 _ (by decide) (by decide) C ?_
  exact GI.zero _ _
theorem mxA1_0 (H : Holds D x0 x1 x2 x3 x4 x5 x6 x7) : MI D ⟨1, by decide⟩ 0 19 (kernelRun0_A.sl.v7156 (F := Ideal) c m1 g1 m2 g2 m4 g4 m5 g5 m6 g6 m7 g7 m8 g8 m13 m14 m15 x0 x1 x3 x4 x5 x6 x7) := by
  have C := colsA1 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 19 refine MI.step H 1 0 _ (by decide) (by decide) C ?_
  exact MI.zero _ _
theorem mxA1_1 (H : Holds D x0 x1 x2 x3 x4 x5 x6 x7) : MI D ⟨1, by decide⟩ 1 19 (kernelRun0_A.sl.v7917 (F := Ideal) c m1 g1 m2 g2 m4 g4 m5 g5 m6 g6 m7 g7 m8 g8 m13 m14 m15 x0 x1 x3 x4 x5 x6 x7) := by
  have C := colsA1 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 19 refine MI.step H 1 1 _ (by decide) (by decide) C ?_
  exact MI.zero _ _
theorem mxA1_2 (H : Holds D x0 x1 x2 x3 x4 x5 x6 x7) : MI D ⟨1, by decide⟩ 2 19 (kernelRun0_A.sl.v8678 (F := Ideal) c m1 g1 m2 g2 m4 g4 m5 g5 m6 g6 m7 g7 m8 g8 m13 m14 m15 x0 x1 x3 x4 x5 x6 x7) := by
  have C := colsA1 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 19 refine MI.step H 1 2 _ (by decide) (by decide) C ?_
  exact MI.zero _ _
theorem mxA1_3 (H : Holds D x0 x1 x2 x3 x4 x5 x6 x7) : MI D ⟨1, by decide⟩ 3 19 (maximumf (kernelRun0_A.sl.v9399 (F := Ideal) c m1 g1 m2 g2 m4 g4 m5 g5 m6 g6 m7 g7 m8 g8 m13 m14 m15 x0 x1 x3 x4 x5 x6 x7) (absf (kernelRun0_A.sl.v9434 (F := Ideal) c m1 g1 m2 g2 m4 g4 m5 g5 m6 g6 m7 g7 m8 g8 m13 m14 m15 x0 x1 x3 x4 x5 x6 x7))) := by
  have C := colsA1 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 19 refine MI.step H 1 3 _ (by decide) (by decide) C ?_
  exact MI.zero _ _
theorem yA1 (H : Holds D x0 x1 x2 x3 x4 x5 x6 x7) : Is (kernelRun0_A.sl.r_48 (F := Ideal) c m1 g1 m2 g2 m4 g4 m5 g5 m6 g6 m7 g7 m8 g8 m13 m14 m15 x0 x1 x3 x4 x5 x6 x7) fun s => rowY (D.g ⟨1, by decide⟩ s) := kY_is (mxA1_0 H) (mxA1_1 H) (mxA1_2 H) (mxA1_3 H)
theorem sA1 (H : Holds D x0 x1 x2 x3 x4 x5 x6 x7) (G : D.Good) : Is (kernelRun0_A.sl.v9527 (F := Ideal) c m1 g1 m2 g2 m4 g4 m5 g5 m6 g6 m7 g7 m8 g8 m13 m14 m15 x0 x1 x3 x4 x5 x6 x7) (D.scl ⟨1, by decide⟩) :=
  kscl_is (yA1 H) (fun s => rowY_nonneg _) (fun s => rowY_lt _ (G.abs_g ⟨1, by decide⟩ s))
theorem iA1 (H : Holds D x0 x1 x2 x3 x4 x5 x6 x7) (G : D.Good) (s j : Fin 128) : @Eq EReal ((kernelRun0_A.sl.v9536 (F := Ideal) c m1 g1 m2 g2 m4 g4 m5 g5 m6 g6 m7 g7 m8 g8 m13 m14 m15 x0 x1 x3 x4 x5 x6 x7) (ix2 s j)) ((1 / D.scl ⟨1, by decide⟩ s : ℝ) : EReal) :=
  (kcol_at _ s j).trans (kinvs_is (yA1 H) (fun s => rowY_nonneg _) (fun s => rowY_lt _ (G.abs_g ⟨1, by decide⟩ s)) s)

end Cert.Ker
end
-- ==== Proof.KA.lean ====
module

public import proofs.«01_k».proof.Proof.Gen.KernelIdeal.Frame
public import proofs.«01_k».proof.Proof.KA02
public import proofs.«01_k».proof.Proof.KA12

@[expose] public section
set_option maxRecDepth 16384
noncomputable section

/-! What a point of the grid stores. -/
namespace Cert.Ker
open Cert.KernelIdeal Cert.KernelIdeal.Gen Idealize.ShloMosaic
open Cert.Mth

variable {D : Data 128} {x0 : Vec Ideal S2x128x2432 .fp8e4m3} {x1 : Vec Ideal S2x128 .f32} {x2 : Vec Ideal S2x128x2432 .bf16}
    {x3 : Vec Ideal S2x128x2432 .fp8e5m2} {x4 : Vec Ideal S2x128 .f32} {x5 : Vec Ideal S2x128x2432 .fp8e5m2} {x6 : Vec Ideal S2x128 .f32}
    {x7 : Vec Ideal S2x2432 .f32}
  {m1 : Memref sig .tc .vmem S2x128x2432 .fp8e4m3} {g1 : m1.IsWhole} {m2 : Memref sig .tc .vmem S2x128 .f32} {g2 : m2.IsWhole}
  {m3 : Memref sig .tc .vmem S2x128x2432 .bf16} {g3 : m3.IsWhole} {m4 : Memref sig .tc .vmem S2x128x2432 .fp8e5m2} {g4 : m4.IsWhole}
  {m5 : Memref sig .tc .vmem S2x128 .f32} {g5 : m5.IsWhole} {m6 : Memref sig .tc .vmem S2x128x2432 .fp8e5m2} {g6 : m6.IsWhole}
  {m7 : Memref sig .tc .vmem S2x128 .f32} {g7 : m7.IsWhole} {m8 : Memref sig .tc .vmem S2x2432 .f32} {g8 : m8.IsWhole}
  {m13 : Memref sig .tc .vmem S16x2432 .bf16} {m14 m15 : Memref sig .tc .vmem S128x2432 .bf16} {m16 : Memref sig .tc .vmem S128x2432 .f32} {m17 : Memref sig .tc .vmem S8x2432 .f32} {c : Dev nD}

theorem oA0 (H : Holds D x0 x1 x2 x3 x4 x5 x6 x7) (i : Fin 3) (d : Fin 2432) : @Eq EReal ((KO (ldR m7 g7 x6 0 (by decide)) (kernelRun0_A.sl.r_10 (F := Ideal) c m1 g1 m2 g2 m7 g7 m8 g8 m13 m15 x0 x1 x6 x7) (kernelRun0_A.sl.r_9 (F := Ideal) c m1 g1 m2 g2 m7 g7 m8 g8 m13 m15 x0 x1 x6 x7) (FH m6 g6 x5 0 (by decide)) (kernelRun0_A.sl.v5185 (F := Ideal) c m1 g1 m6 g6 m14 x0 x5) (kernelRun0_A.sl.v5203 (F := Ideal) c m3 g3 m4 g4 m5 g5 m17 x2 x3 x4)) (ix2 i d)) (D.out ⟨0, by decide⟩ i d) := by
  obtain ⟨fa, fb, fk, Cf⟩ := coefA0 (m1 := m1) (g1 := g1) (m2 := m2) (g2 := g2) (m6 := m6) (g6 := g6) (m7 := m7) (g7 := g7) (m8 := m8) (g8 := g8) (m13 := m13) (m14 := m14) (m15 := m15) (c := c) H
  refine KO_at D ⟨0, by decide⟩ (fun s => (ldR_at _ _ _ _ _ s).trans (H.sh _ _)) Cf (fun s d => (FH_at _ _ _ _ _ s d).trans (H.h _ _ _)) (fun s d => readAll m14.view (hs1A0 H) (ix2 s d)) (fun d => ?_) i d
  exact (Finset.sum_congr rfl fun i _ => readG m17.view (kernelRun0_A.sl.HS4_77 (F := Ideal) c m3 g3 m4 g4 m5 g5 m17 x2 x3 x4) (ix2 i d)).trans (GI.all (hs4A0 H) d)
theorem oA1 (H : Holds D x0 x1 x2 x3 x4 x5 x6 x7) (i : Fin 3) (d : Fin 2432) : @Eq EReal ((KO (ldR m7 g7 x6 1 (by decide)) (kernelRun0_A.sl.r_39 (F := Ideal) c m1 g1 m2 g2 m7 g7 m8 g8 m13 m15 x0 x1 x6 x7) (kernelRun0_A.sl.r_38 (F := Ideal) c m1 g1 m2 g2 m7 g7 m8 g8 m13 m15 x0 x1 x6 x7) (FH m6 g6 x5 1 (by decide)) (kernelRun0_A.sl.v10401 (F := Ideal) c m1 g1 m6 g6 m14 x0 x5) (kernelRun0_A.sl.v10419 (F := Ideal) c m3 g3 m4 g4 m5 g5 m17 x2 x3 x4)) (ix2 i d)) (D.out ⟨1, by decide⟩ i d) := by
  obtain ⟨fa, fb, fk, Cf⟩ := coefA1 (m1 := m1) (g1 := g1) (m2 := m2) (g2 := g2) (m6 := m6) (g6 := g6) (m7 := m7) (g7 := g7) (m8 := m8) (g8 := g8) (m13 := m13) (m14 := m14) (m15 := m15) (c := c) H
  refine KO_at D ⟨1, by decide⟩ (fun s => (ldR_at _ _ _ _ _ s).trans (H.sh _ _)) Cf (fun s d => (FH_at _ _ _ _ _ s d).trans (H.h _ _ _)) (fun s d => readAll m14.view (hs1A1 H) (ix2 s d)) (fun d => ?_) i d
  exact (Finset.sum_congr rfl fun i _ => readG m17.view (kernelRun0_A.sl.HS4_154 (F := Ideal) c m3 g3 m4 g4 m5 g5 m17 x2 x3 x4) (ix2 i d)).trans (GI.all (hs4A1 H) d)
variable {i : grid0.Coords} {m9 : Memref sig .tc .vmem S2x3x2432 .f32} {g9 : m9.IsWhole} {m10 : Memref sig .tc .vmem S2x1x3x2432 .f32} {g10 : m10.IsWhole}
  {m11 : Memref sig .tc .vmem S2x128x2432 .fp8e5m2} {g11 : m11.IsWhole} {m12 : Memref sig .tc .vmem S2x128 .f32} {g12 : m12.IsWhole}
  {g13 : m13.IsWhole} {g14 : m14.IsWhole} {g15 : m15.IsWhole} {g16 : m16.IsWhole} {g17 : m17.IsWhole}

theorem lA11 (H : Holds D x0 x1 x2 x3 x4 x5 x6 x7) (Gd : D.Good) (hc0 : cond0_0 i) (hc1 : ¬cond0_1 i) (hc2 : cond0_2 i) (hc3 : ¬cond0_3 i) : Cov (rk0 (by decide)) (Sm D) 2 ((kernelRun0_A (F := Ideal) c i m1 g1 m2 g2 m3 g3 m4 g4 m5 g5 m6 g6 m7 g7 m8 g8 m9 g9 m10 g10 m11 g11 m12 g12 m13 g13 m14 g14 m15 g15 m16 g16 m17 g17 hc0 hc1 hc2 hc3 x0 x1 x2 x3 x4 x5 x6 x7).2.2.2.1) :=
  covS 1 (by decide) (sA1 H Gd) (covS 0 (by decide) (sA0 H Gd) (Cov.zero _ _ _))
theorem outA11 (H : Holds D x0 x1 x2 x3 x4 x5 x6 x7) (Gd : D.Good) (hc0 : cond0_0 i) (hc1 : ¬cond0_1 i) (hc2 : cond0_2 i) (hc3 : ¬cond0_3 i) : out0_A_11 (F := Ideal) c i m1 g1 m2 g2 m3 g3 m4 g4 m5 g5 m6 g6 m7 g7 m8 g8 m9 g9 m10 g10 m11 g11 m12 g12 m13 g13 m14 g14 m15 g15 m16 g16 m17 g17 hc0 hc1 hc2 hc3 x0 x1 x2 x3 x4 x5 x6 x7 = Sm D := by
  funext y
  refine (View.read_writes_junk_apply_eq_canon VO0_11 y _).trans ?_
  exact Cov.two (lA11 H Gd hc0 hc1 hc2 hc3) rfl y
theorem lA9 (H : Holds D x0 x1 x2 x3 x4 x5 x6 x7) (hc0 : cond0_0 i) (hc1 : ¬cond0_1 i) (hc2 : cond0_2 i) (hc3 : ¬cond0_3 i) : Cov (rk0 (by decide)) (Bm D) 2 ((kernelRun0_A (F := Ideal) c i m1 g1 m2 g2 m3 g3 m4 g4 m5 g5 m6 g6 m7 g7 m8 g8 m9 g9 m10 g10 m11 g11 m12 g12 m13 g13 m14 g14 m15 g15 m16 g16 m17 g17 hc0 hc1 hc2 hc3 x0 x1 x2 x3 x4 x5 x6 x7).2.1) :=
  covB 1 (by decide) (oA1 H) (covB 0 (by decide) (oA0 H) (Cov.zero _ _ _))
theorem outA9 (H : Holds D x0 x1 x2 x3 x4 x5 x6 x7) (hc0 : cond0_0 i) (hc1 : ¬cond0_1 i) (hc2 : cond0_2 i) (hc3 : ¬cond0_3 i) : out0_A_9 (F := Ideal) c i m1 g1 m2 g2 m3 g3 m4 g4 m5 g5 m6 g6 m7 g7 m8 g8 m9 g9 m10 g10 m11 g11 m12 g12 m13 g13 m14 g14 m15 g15 m16 g16 m17 g17 hc0 hc1 hc2 hc3 x0 x1 x2 x3 x4 x5 x6 x7 = Bm D := by
  funext y
  refine (View.read_writes_junk_apply_eq_canon VO0_9 y _).trans ?_
  exact Cov.two (lA9 H hc0 hc1 hc2 hc3) rfl y
theorem lA8 (H : Holds D x0 x1 x2 x3 x4 x5 x6 x7) (hc0 : cond0_0 i) (hc1 : ¬cond0_1 i) (hc2 : cond0_2 i) (hc3 : ¬cond0_3 i) : Cov (rk0 (by decide)) (Dm0 D) 2 ((kernelRun0_A (F := Ideal) c i m1 g1 m2 g2 m3 g3 m4 g4 m5 g5 m6 g6 m7 g7 m8 g8 m9 g9 m10 g10 m11 g11 m12 g12 m13 g13 m14 g14 m15 g15 m16 g16 m17 g17 hc0 hc1 hc2 hc3 x0 x1 x2 x3 x4 x5 x6 x7).1) :=
  covD 1 (by decide) (oA1 H) (covD 0 (by decide) (oA0 H) (Cov.zero _ _ _))
theorem outA8 (H : Holds D x0 x1 x2 x3 x4 x5 x6 x7) (hc0 : cond0_0 i) (hc1 : ¬cond0_1 i) (hc2 : cond0_2 i) (hc3 : ¬cond0_3 i) : out0_A_8 (F := Ideal) c i m1 g1 m2 g2 m3 g3 m4 g4 m5 g5 m6 g6 m7 g7 m8 g8 m9 g9 m10 g10 m11 g11 m12 g12 m13 g13 m14 g14 m15 g15 m16 g16 m17 g17 hc0 hc1 hc2 hc3 x0 x1 x2 x3 x4 x5 x6 x7 = Dm0 D := by
  funext y
  refine (View.read_writes_junk_apply_eq_canon VO0_8 y _).trans ?_
  exact Cov.two (lA8 H hc0 hc1 hc2 hc3) rfl y
theorem lA10 (H : Holds D x0 x1 x2 x3 x4 x5 x6 x7) (Gd : D.Good) (hc0 : cond0_0 i) (hc1 : ¬cond0_1 i) (hc2 : cond0_2 i) (hc3 : ¬cond0_3 i) : Cov rk3 (Cm D) 152 ((kernelRun0_A (F := Ideal) c i m1 g1 m2 g2 m3 g3 m4 g4 m5 g5 m6 g6 m7 g7 m8 g8 m9 g9 m10 g10 m11 g11 m12 g12 m13 g13 m14 g14 m15 g15 m16 g16 m17 g17 hc0 hc1 hc2 hc3 x0 x1 x2 x3 x4 x5 x6 x7).2.2.1) := by
  have V0 := hs3A0 (m1 := m1) (g1 := g1) (m2 := m2) (g2 := g2) (m4 := m4) (g4 := g4) (m5 := m5) (g5 := g5) (m6 := m6) (g6 := g6) (m7 := m7) (g7 := g7) (m8 := m8) (g8 := g8) (m13 := m13) (m14 := m14) (m15 := m15) (c := c) H
  have I0 := iA0 (m1 := m1) (g1 := g1) (m2 := m2) (g2 := g2) (m4 := m4) (g4 := g4) (m5 := m5) (g5 := g5) (m6 := m6) (g6 := g6) (m7 := m7) (g7 := g7) (m8 := m8) (g8 := g8) (m13 := m13) (m14 := m14) (m15 := m15) (c := c) H Gd
  have V1 := hs3A1 (m1 := m1) (g1 := g1) (m2 := m2) (g2 := g2) (m4 := m4) (g4 := g4) (m5 := m5) (g5 := g5) (m6 := m6) (g6 := g6) (m7 := m7) (g7 := g7) (m8 := m8) (g8 := g8) (m13 := m13) (m14 := m14) (m15 := m15) (c := c) H
  have I1 := iA1 (m1 := m1) (g1 := g1) (m2 := m2) (g2 := g2) (m4 := m4) (g4 := g4) (m5 := m5) (g5 := g5) (m6 := m6) (g6 := g6) (m7 := m7) (g7 := g7) (m8 := m8) (g8 := g8) (m13 := m13) (m14 := m14) (m15 := m15) (c := c) H Gd
  iterate 76 refine covC1 (m16 := m16) V1 I1 _ (by decide) (by decide) ?_
  iterate 76 refine covC0 (m16 := m16) V0 I0 _ (by decide) ?_
  exact Cov.zero _ _ _
theorem outA10 (H : Holds D x0 x1 x2 x3 x4 x5 x6 x7) (Gd : D.Good) (hc0 : cond0_0 i) (hc1 : ¬cond0_1 i) (hc2 : cond0_2 i) (hc3 : ¬cond0_3 i) : out0_A_10 (F := Ideal) c i m1 g1 m2 g2 m3 g3 m4 g4 m5 g5 m6 g6 m7 g7 m8 g8 m9 g9 m10 g10 m11 g11 m12 g12 m13 g13 m14 g14 m15 g15 m16 g16 m17 g17 hc0 hc1 hc2 hc3 x0 x1 x2 x3 x4 x5 x6 x7 = Cm D := by
  funext y
  refine (View.read_writes_junk_apply_eq_canon VO0_10 y _).trans ?_
  exact Cov.all3 (lA10 H Gd hc0 hc1 hc2 hc3) y

end Cert.Ker
end
-- ==== Proof.KB01.lean ====
module

public import proofs.«01_k».proof.Proof.Gen.KernelIdeal.Frame
public import proofs.«01_k».proof.Proof.Ker5

@[expose] public section
set_option maxRecDepth 16384
noncomputable section

/-! Stores of the kernel, one by one. -/
namespace Cert.Ker
open Cert.KernelIdeal Cert.KernelIdeal.Gen Idealize.ShloMosaic
open Cert.Mth

variable {D : Data 128} {x0 : Vec Ideal S2x128x2432 .fp8e4m3} {x1 : Vec Ideal S2x128 .f32} {x2 : Vec Ideal S2x128x2432 .bf16}
    {x3 : Vec Ideal S2x128x2432 .fp8e5m2} {x4 : Vec Ideal S2x128 .f32} {x5 : Vec Ideal S2x128x2432 .fp8e5m2} {x6 : Vec Ideal S2x128 .f32}
    {x7 : Vec Ideal S2x2432 .f32}
  {m1 : Memref sig .tc .vmem S2x128x2432 .fp8e4m3} {g1 : m1.IsWhole} {m2 : Memref sig .tc .vmem S2x128 .f32} {g2 : m2.IsWhole}
  {m3 : Memref sig .tc .vmem S2x128x2432 .bf16} {g3 : m3.IsWhole} {m4 : Memref sig .tc .vmem S2x128x2432 .fp8e5m2} {g4 : m4.IsWhole}
  {m5 : Memref sig .tc .vmem S2x128 .f32} {g5 : m5.IsWhole} {m6 : Memref sig .tc .vmem S2x128x2432 .fp8e5m2} {g6 : m6.IsWhole}
  {m7 : Memref sig .tc .vmem S2x128 .f32} {g7 : m7.IsWhole} {m8 : Memref sig .tc .vmem S2x2432 .f32} {g8 : m8.IsWhole}
  {m13 : Memref sig .tc .vmem S16x2432 .bf16} {m14 m15 : Memref sig .tc .vmem S128x2432 .bf16} {m16 : Memref sig .tc .vmem S128x2432 .f32} {m17 : Memref sig .tc .vmem S8x2432 .f32} {c : Dev nD}

theorem hs1B0 (H : Holds D x0 x1 x2 x3 x4 x5 x6 x7) : Cov rk (Pm D ⟨0, by decide⟩) 76 (kernelRun0_B.sl.HS1_76 (F := Ideal) c m1 g1 m6 g6 x0 x5) := by
  iterate 76 refine covP H 0 _ (by decide) (by decide) ?_
  exact Cov.zero _ _ _
theorem hs2B0 (H : Holds D x0 x1 x2 x3 x4 x5 x6 x7) : Cov rk (Qm D ⟨0, by decide⟩) 76 (kernelRun0_B.sl.HS2_76 (F := Ideal) c m1 g1 x0) := by
  iterate 76 refine covQ H 0 _ (by decide) (by decide) ?_
  exact Cov.zero _ _ _
theorem w16B0 (H : Holds D x0 x1 x2 x3 x4 x5 x6 x7) : Wok (kernelRun0_B.sl.v1080 (F := Ideal) c m8 g8 m13 x7) (D.w ⟨0, by decide⟩) := by
  have e : (kernelRun0_B.sl.v1080 (F := Ideal) c m8 g8 m13 x7) = Wm (ldV m8 g8 x7 0 (by decide)) := readW m13.view _ _
  rw [e]
  exact Wm_ok fun d => (ldV_at _ _ _ _ _ _).trans (H.w _ _)
theorem pB0 (H : Holds D x0 x1 x2 x3 x4 x5 x6 x7) (s : Fin 128) (d : Fin 2432) : @Eq EReal ((kernelRun0_B.sl.v1089 (F := Ideal) c m1 g1 m6 g6 m14 x0 x5) (ix2 s d)) ((D.x ⟨0, by decide⟩ s d * D.h ⟨0, by decide⟩ s d : ℝ) : EReal) := readAll m14.view (hs1B0 H) (ix2 s d)
theorem qB0 (H : Holds D x0 x1 x2 x3 x4 x5 x6 x7) (s : Fin 128) (d : Fin 2432) : @Eq EReal ((kernelRun0_B.sl.v1087 (F := Ideal) c m1 g1 m15 x0) (ix2 s d)) ((D.x ⟨0, by decide⟩ s d * D.x ⟨0, by decide⟩ s d : ℝ) : EReal) := readAll m15.view (hs2B0 H) (ix2 s d)
theorem coefB0 (H : Holds D x0 x1 x2 x3 x4 x5 x6 x7) : ∃ fa fb fk, Coef D ⟨0, by decide⟩ (dA (kernelRun0_B.sl.v1080 (F := Ideal) c m8 g8 m13 x7) (FX m1 g1 x0 0 (by decide)) (kernelRun0_B.sl.v1087 (F := Ideal) c m1 g1 m15 x0) (ldR m2 g2 x1 0 (by decide)) (ldR m7 g7 x6 0 (by decide))) (dB (kernelRun0_B.sl.v1080 (F := Ideal) c m8 g8 m13 x7) (FX m1 g1 x0 0 (by decide)) (FH m6 g6 x5 0 (by decide)) (kernelRun0_B.sl.v1089 (F := Ideal) c m1 g1 m6 g6 m14 x0 x5) (kernelRun0_B.sl.v1087 (F := Ideal) c m1 g1 m15 x0) (ldR m2 g2 x1 0 (by decide)) (ldR m7 g7 x6 0 (by decide))) (dK (kernelRun0_B.sl.v1080 (F := Ideal) c m8 g8 m13 x7) (FX m1 g1 x0 0 (by decide)) (FH m6 g6 x5 0 (by decide)) (kernelRun0_B.sl.v1089 (F := Ideal) c m1 g1 m6 g6 m14 x0 x5) (kernelRun0_B.sl.v1087 (F := Ideal) c m1 g1 m15 x0) (ldR m2 g2 x1 0 (by decide)) (ldR m7 g7 x6 0 (by decide))) (kernelRun0_B.sl.r_9 (F := Ideal) c m1 g1 m2 g2 m7 g7 m8 g8 m13 m15 x0 x1 x6 x7) (kernelRun0_B.sl.r_10 (F := Ideal) c m1 g1 m2 g2 m7 g7 m8 g8 m13 m15 x0 x1 x6 x7) fa fb fk := by
  have e1 : (kernelRun0_B.sl.r_9 (F := Ideal) c m1 g1 m2 g2 m7 g7 m8 g8 m13 m15 x0 x1 x6 x7) = dAl (kernelRun0_B.sl.v1080 (F := Ideal) c m8 g8 m13 x7) (FX m1 g1 x0 0 (by decide)) (kernelRun0_B.sl.v1087 (F := Ideal) c m1 g1 m15 x0) (ldR m2 g2 x1 0 (by decide)) (ldR m7 g7 x6 0 (by decide)) := rfl
  have e2 : (kernelRun0_B.sl.r_10 (F := Ideal) c m1 g1 m2 g2 m7 g7 m8 g8 m13 m15 x0 x1 x6 x7) = dBe (kernelRun0_B.sl.v1080 (F := Ideal) c m8 g8 m13 x7) (FX m1 g1 x0 0 (by decide)) (kernelRun0_B.sl.v1087 (F := Ideal) c m1 g1 m15 x0) (ldR m2 g2 x1 0 (by decide)) (ldR m7 g7 x6 0 (by decide)) := rfl
  rw [e1, e2]
  exact coef' D ⟨0, by decide⟩ (w16B0 H) (fun s d => (FX_at _ _ _ _ _ s d).trans (H.x _ _ _)) (fun s d => (FH_at _ _ _ _ _ s d).trans (H.h _ _ _)) (pB0 H) (qB0 H)
    (fun s => (ldR_at _ _ _ _ _ s).trans (H.sx _ _)) (fun s => (ldR_at _ _ _ _ _ s).trans (H.sh _ _))
theorem colsB0 (H : Holds D x0 x1 x2 x3 x4 x5 x6 x7) : Cols D ⟨0, by decide⟩ (kernelRun0_B.sl.r_11 (F := Ideal) c m5 g5 x4) (kernelRun0_B.sl.r_12 (F := Ideal) c m1 g1 m2 g2 m7 g7 m8 g8 m13 m15 x0 x1 x6 x7) (kernelRun0_B.sl.r_13 (F := Ideal) c m1 g1 m2 g2 m6 g6 m7 g7 m8 g8 m13 m14 m15 x0 x1 x5 x6 x7) (kernelRun0_B.sl.r_14 (F := Ideal) c m1 g1 m2 g2 m6 g6 m7 g7 m8 g8 m13 m14 m15 x0 x1 x5 x6 x7) := by
  have e0 : (kernelRun0_B.sl.r_11 (F := Ideal) c m5 g5 x4) = kcol (ldR m5 g5 x4 0 (by decide)) := rfl
  have e1 : (kernelRun0_B.sl.r_12 (F := Ideal) c m1 g1 m2 g2 m7 g7 m8 g8 m13 m15 x0 x1 x6 x7) = kcol (dA (kernelRun0_B.sl.v1080 (F := Ideal) c m8 g8 m13 x7) (FX m1 g1 x0 0 (by decide)) (kernelRun0_B.sl.v1087 (F := Ideal) c m1 g1 m15 x0) (ldR m2 g2 x1 0 (by decide)) (ldR m7 g7 x6 0 (by decide))) := rfl
  have e2 : (kernelRun0_B.sl.r_13 (F := Ideal) c m1 g1 m2 g2 m6 g6 m7 g7 m8 g8 m13 m14 m15 x0 x1 x5 x6 x7) = kcol (dB (kernelRun0_B.sl.v1080 (F := Ideal) c m8 g8 m13 x7) (FX m1 g1 x0 0 (by decide)) (FH m6 g6 x5 0 (by decide)) (kernelRun0_B.sl.v1089 (F := Ideal) c m1 g1 m6 g6 m14 x0 x5) (kernelRun0_B.sl.v1087 (F := Ideal) c m1 g1 m15 x0) (ldR m2 g2 x1 0 (by decide)) (ldR m7 g7 x6 0 (by decide))) := rfl
  have e3 : (kernelRun0_B.sl.r_14 (F := Ideal) c m1 g1 m2 g2 m6 g6 m7 g7 m8 g8 m13 m14 m15 x0 x1 x5 x6 x7) = kcol (dK (kernelRun0_B.sl.v1080 (F := Ideal) c m8 g8 m13 x7) (FX m1 g1 x0 0 (by decide)) (FH m6 g6 x5 0 (by decide)) (kernelRun0_B.sl.v1089 (F := Ideal) c m1 g1 m6 g6 m14 x0 x5) (kernelRun0_B.sl.v1087 (F := Ideal) c m1 g1 m15 x0) (ldR m2 g2 x1 0 (by decide)) (ldR m7 g7 x6 0 (by decide))) := rfl
  rw [e0, e1, e2, e3]
  exact cols (fun s => (ldR_at _ _ _ _ _ s).trans (H.sy _ _)) (coefB0 H)

end Cert.Ker
end
-- ==== Proof.KB02.lean ====
module

public import proofs.«01_k».proof.Proof.Gen.KernelIdeal.Frame
public import proofs.«01_k».proof.Proof.KB01

@[expose] public section
set_option maxRecDepth 16384
noncomputable section

/-! Stores of the kernel, one by one. -/
namespace Cert.Ker
open Cert.KernelIdeal Cert.KernelIdeal.Gen Idealize.ShloMosaic
open Cert.Mth

variable {D : Data 128} {x0 : Vec Ideal S2x128x2432 .fp8e4m3} {x1 : Vec Ideal S2x128 .f32} {x2 : Vec Ideal S2x128x2432 .bf16}
    {x3 : Vec Ideal S2x128x2432 .fp8e5m2} {x4 : Vec Ideal S2x128 .f32} {x5 : Vec Ideal S2x128x2432 .fp8e5m2} {x6 : Vec Ideal S2x128 .f32}
    {x7 : Vec Ideal S2x2432 .f32}
  {m1 : Memref sig .tc .vmem S2x128x2432 .fp8e4m3} {g1 : m1.IsWhole} {m2 : Memref sig .tc .vmem S2x128 .f32} {g2 : m2.IsWhole}
  {m3 : Memref sig .tc .vmem S2x128x2432 .bf16} {g3 : m3.IsWhole} {m4 : Memref sig .tc .vmem S2x128x2432 .fp8e5m2} {g4 : m4.IsWhole}
  {m5 : Memref sig .tc .vmem S2x128 .f32} {g5 : m5.IsWhole} {m6 : Memref sig .tc .vmem S2x128x2432 .fp8e5m2} {g6 : m6.IsWhole}
  {m7 : Memref sig .tc .vmem S2x128 .f32} {g7 : m7.IsWhole} {m8 : Memref sig .tc .vmem S2x2432 .f32} {g8 : m8.IsWhole}
  {m13 : Memref sig .tc .vmem S16x2432 .bf16} {m14 m15 : Memref sig .tc .vmem S128x2432 .bf16} {m16 : Memref sig .tc .vmem S128x2432 .f32} {m17 : Memref sig .tc .vmem S8x2432 .f32} {c : Dev nD}

theorem hs3B0 (H : Holds D x0 x1 x2 x3 x4 x5 x6 x7) : Cov rk (Vm D ⟨0, by decide⟩) 76 (kernelRun0_B.sl.HS3_76 (F := Ideal) c m1 g1 m2 g2 m4 g4 m5 g5 m6 g6 m7 g7 m8 g8 m13 m14 m15 x0 x1 x3 x4 x5 x6 x7) := by
  have C := colsB0 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 76 refine covV H 0 _ (by decide) (by decide) C ?_
  exact Cov.zero _ _ _
theorem hs4B0 (H : Holds D x0 x1 x2 x3 x4 x5 x6 x7) : GI D ⟨0, by decide⟩ 76 (kernelRun0_B.sl.HS4_77 (F := Ideal) c m3 g3 m4 g4 m5 g5 m17 x2 x3 x4) := by
  have C : ∀ s j, @Eq EReal ((kernelRun0_B.sl.r_11 (F := Ideal) c m5 g5 x4) (ix2 s j)) (D.sy ⟨0, by decide⟩ s) := fun s j => (kcol_at _ s j).trans ((ldR_at _ _ _ _ _ s).trans (H.sy _ _))
  iterate 76 refine GI.step H 0 _ (by decide) (by decide) C ?_
  exact GI.zero _ _
theorem mxB0_0 (H : Holds D x0 x1 x2 x3 x4 x5 x6 x7) : MI D ⟨0, by decide⟩ 0 19 (kernelRun0_B.sl.v1940 (F := Ideal) c m1 g1 m2 g2 m4 g4 m5 g5 m6 g6 m7 g7 m8 g8 m13 m14 m15 x0 x1 x3 x4 x5 x6 x7) := by
  have C := colsB0 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 19 refine MI.step H 0 0 _ (by decide) (by decide) C ?_
  exact MI.zero _ _
theorem mxB0_1 (H : Holds D x0 x1 x2 x3 x4 x5 x6 x7) : MI D ⟨0, by decide⟩ 1 19 (kernelRun0_B.sl.v2701 (F := Ideal) c m1 g1 m2 g2 m4 g4 m5 g5 m6 g6 m7 g7 m8 g8 m13 m14 m15 x0 x1 x3 x4 x5 x6 x7) := by
  have C := colsB0 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 19 refine MI.step H 0 1 _ (by decide) (by decide) C ?_
  exact MI.zero _ _
theorem mxB0_2 (H : Holds D x0 x1 x2 x3 x4 x5 x6 x7) : MI D ⟨0, by decide⟩ 2 19 (kernelRun0_B.sl.v3462 (F := Ideal) c m1 g1 m2 g2 m4 g4 m5 g5 m6 g6 m7 g7 m8 g8 m13 m14 m15 x0 x1 x3 x4 x5 x6 x7) := by
  have C := colsB0 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 19 refine MI.step H 0 2 _ (by decide) (by decide) C ?_
  exact MI.zero _ _
theorem mxB0_3 (H : Holds D x0 x1 x2 x3 x4 x5 x6 x7) : MI D ⟨0, by decide⟩ 3 19 (kernelRun0_B.sl.v4223 (F := Ideal) c m1 g1 m2 g2 m4 g4 m5 g5 m6 g6 m7 g7 m8 g8 m13 m14 m15 x0 x1 x3 x4 x5 x6 x7) := by
  have C := colsB0 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 19 refine MI.step H 0 3 _ (by decide) (by decide) C ?_
  exact MI.zero _ _
theorem yB0 (H : Holds D x0 x1 x2 x3 x4 x5 x6 x7) : Is (kernelRun0_B.sl.r_22 (F := Ideal) c m1 g1 m2 g2 m4 g4 m5 g5 m6 g6 m7 g7 m8 g8 m13 m14 m15 x0 x1 x3 x4 x5 x6 x7) fun s => rowY (D.g ⟨0, by decide⟩ s) := kY_is (mxB0_0 H) (mxB0_1 H) (mxB0_2 H) (mxB0_3 H)
theorem sB0 (H : Holds D x0 x1 x2 x3 x4 x5 x6 x7) (G : D.Good) : Is (kernelRun0_B.sl.v4311 (F := Ideal) c m1 g1 m2 g2 m4 g4 m5 g5 m6 g6 m7 g7 m8 g8 m13 m14 m15 x0 x1 x3 x4 x5 x6 x7) (D.scl ⟨0, by decide⟩) :=
  kscl_is (yB0 H) (fun s => rowY_nonneg _) (fun s => rowY_lt _ (G.abs_g ⟨0, by decide⟩ s))
theorem iB0 (H : Holds D x0 x1 x2 x3 x4 x5 x6 x7) (G : D.Good) (s j : Fin 128) : @Eq EReal ((kernelRun0_B.sl.v4320 (F := Ideal) c m1 g1 m2 g2 m4 g4 m5 g5 m6 g6 m7 g7 m8 g8 m13 m14 m15 x0 x1 x3 x4 x5 x6 x7) (ix2 s j)) ((1 / D.scl ⟨0, by decide⟩ s : ℝ) : EReal) :=
  (kcol_at _ s j).trans (kinvs_is (yB0 H) (fun s => rowY_nonneg _) (fun s => rowY_lt _ (G.abs_g ⟨0, by decide⟩ s)) s)

end Cert.Ker
end
-- ==== Proof.KB11.lean ====
module

public import proofs.«01_k».proof.Proof.Gen.KernelIdeal.Frame
public import proofs.«01_k».proof.Proof.Ker5

@[expose] public section
set_option maxRecDepth 16384
noncomputable section

/-! Stores of the kernel, one by one. -/
namespace Cert.Ker
open Cert.KernelIdeal Cert.KernelIdeal.Gen Idealize.ShloMosaic
open Cert.Mth

variable {D : Data 128} {x0 : Vec Ideal S2x128x2432 .fp8e4m3} {x1 : Vec Ideal S2x128 .f32} {x2 : Vec Ideal S2x128x2432 .bf16}
    {x3 : Vec Ideal S2x128x2432 .fp8e5m2} {x4 : Vec Ideal S2x128 .f32} {x5 : Vec Ideal S2x128x2432 .fp8e5m2} {x6 : Vec Ideal S2x128 .f32}
    {x7 : Vec Ideal S2x2432 .f32}
  {m1 : Memref sig .tc .vmem S2x128x2432 .fp8e4m3} {g1 : m1.IsWhole} {m2 : Memref sig .tc .vmem S2x128 .f32} {g2 : m2.IsWhole}
  {m3 : Memref sig .tc .vmem S2x128x2432 .bf16} {g3 : m3.IsWhole} {m4 : Memref sig .tc .vmem S2x128x2432 .fp8e5m2} {g4 : m4.IsWhole}
  {m5 : Memref sig .tc .vmem S2x128 .f32} {g5 : m5.IsWhole} {m6 : Memref sig .tc .vmem S2x128x2432 .fp8e5m2} {g6 : m6.IsWhole}
  {m7 : Memref sig .tc .vmem S2x128 .f32} {g7 : m7.IsWhole} {m8 : Memref sig .tc .vmem S2x2432 .f32} {g8 : m8.IsWhole}
  {m13 : Memref sig .tc .vmem S16x2432 .bf16} {m14 m15 : Memref sig .tc .vmem S128x2432 .bf16} {m16 : Memref sig .tc .vmem S128x2432 .f32} {m17 : Memref sig .tc .vmem S8x2432 .f32} {c : Dev nD}

theorem hs1B1 (H : Holds D x0 x1 x2 x3 x4 x5 x6 x7) : Cov rk (Pm D ⟨1, by decide⟩) 76 (kernelRun0_B.sl.HS1_152 (F := Ideal) c m1 g1 m6 g6 x0 x5) := by
  iterate 76 refine covP H 1 _ (by decide) (by decide) ?_
  exact Cov.zero _ _ _
theorem hs2B1 (H : Holds D x0 x1 x2 x3 x4 x5 x6 x7) : Cov rk (Qm D ⟨1, by decide⟩) 76 (kernelRun0_B.sl.HS2_152 (F := Ideal) c m1 g1 x0) := by
  iterate 76 refine covQ H 1 _ (by decide) (by decide) ?_
  exact Cov.zero _ _ _
theorem w16B1 (H : Holds D x0 x1 x2 x3 x4 x5 x6 x7) : Wok (kernelRun0_B.sl.v6296 (F := Ideal) c m8 g8 m13 x7) (D.w ⟨1, by decide⟩) := by
  have e : (kernelRun0_B.sl.v6296 (F := Ideal) c m8 g8 m13 x7) = Wm (ldV m8 g8 x7 1 (by decide)) := readW m13.view _ _
  rw [e]
  exact Wm_ok fun d => (ldV_at _ _ _ _ _ _).trans (H.w _ _)
theorem pB1 (H : Holds D x0 x1 x2 x3 x4 x5 x6 x7) (s : Fin 128) (d : Fin 2432) : @Eq EReal ((kernelRun0_B.sl.v6305 (F := Ideal) c m1 g1 m6 g6 m14 x0 x5) (ix2 s d)) ((D.x ⟨1, by decide⟩ s d * D.h ⟨1, by decide⟩ s d : ℝ) : EReal) := readAll m14.view (hs1B1 H) (ix2 s d)
theorem qB1 (H : Holds D x0 x1 x2 x3 x4 x5 x6 x7) (s : Fin 128) (d : Fin 2432) : @Eq EReal ((kernelRun0_B.sl.v6303 (F := Ideal) c m1 g1 m15 x0) (ix2 s d)) ((D.x ⟨1, by decide⟩ s d * D.x ⟨1, by decide⟩ s d : ℝ) : EReal) := readAll m15.view (hs2B1 H) (ix2 s d)
theorem coefB1 (H : Holds D x0 x1 x2 x3 x4 x5 x6 x7) : ∃ fa fb fk, Coef D ⟨1, by decide⟩ (dA (kernelRun0_B.sl.v6296 (F := Ideal) c m8 g8 m13 x7) (FX m1 g1 x0 1 (by decide)) (kernelRun0_B.sl.v6303 (F := Ideal) c m1 g1 m15 x0) (ldR m2 g2 x1 1 (by decide)) (ldR m7 g7 x6 1 (by decide))) (dB (kernelRun0_B.sl.v6296 (F := Ideal) c m8 g8 m13 x7) (FX m1 g1 x0 1 (by decide)) (FH m6 g6 x5 1 (by decide)) (kernelRun0_B.sl.v6305 (F := Ideal) c m1 g1 m6 g6 m14 x0 x5) (kernelRun0_B.sl.v6303 (F := Ideal) c m1 g1 m15 x0) (ldR m2 g2 x1 1 (by decide)) (ldR m7 g7 x6 1 (by decide))) (dK (kernelRun0_B.sl.v6296 (F := Ideal) c m8 g8 m13 x7) (FX m1 g1 x0 1 (by decide)) (FH m6 g6 x5 1 (by decide)) (kernelRun0_B.sl.v6305 (F := Ideal) c m1 g1 m6 g6 m14 x0 x5) (kernelRun0_B.sl.v6303 (F := Ideal) c m1 g1 m15 x0) (ldR m2 g2 x1 1 (by decide)) (ldR m7 g7 x6 1 (by decide))) (kernelRun0_B.sl.r_38 (F := Ideal) c m1 g1 m2 g2 m7 g7 m8 g8 m13 m15 x0 x1 x6 x7) (kernelRun0_B.sl.r_39 (F := Ideal) c m1 g1 m2 g2 m7 g7 m8 g8 m13 m15 x0 x1 x6 x7) fa fb fk := by
  have e1 : (kernelRun0_B.sl.r_38 (F := Ideal) c m1 g1 m2 g2 m7 g7 m8 g8 m13 m15 x0 x1 x6 x7) = dAl (kernelRun0_B.sl.v6296 (F := Ideal) c m8 g8 m13 x7) (FX m1 g1 x0 1 (by decide)) (kernelRun0_B.sl.v6303 (F := Ideal) c m1 g1 m15 x0) (ldR m2 g2 x1 1 (by decide)) (ldR m7 g7 x6 1 (by decide)) := rfl
  have e2 : (kernelRun0_B.sl.r_39 (F := Ideal) c m1 g1 m2 g2 m7 g7 m8 g8 m13 m15 x0 x1 x6 x7) = dBe (kernelRun0_B.sl.v6296 (F := Ideal) c m8 g8 m13 x7) (FX m1 g1 x0 1 (by decide)) (kernelRun0_B.sl.v6303 (F := Ideal) c m1 g1 m15 x0) (ldR m2 g2 x1 1 (by decide)) (ldR m7 g7 x6 1 (by decide)) := rfl
  rw [e1, e2]
  exact coef' D ⟨1, by decide⟩ (w16B1 H) (fun s d => (FX_at _ _ _ _ _ s d).trans (H.x _ _ _)) (fun s d => (FH_at _ _ _ _ _ s d).trans (H.h _ _ _)) (pB1 H) (qB1 H)
    (fun s => (ldR_at _ _ _ _ _ s).trans (H.sx _ _)) (fun s => (ldR_at _ _ _ _ _ s).trans (H.sh _ _))
theorem colsB1 (H : Holds D x0 x1 x2 x3 x4 x5 x6 x7) : Cols D ⟨1, by decide⟩ (kernelRun0_B.sl.r_40 (F := Ideal) c m5 g5 x4) (kernelRun0_B.sl.r_41 (F := Ideal) c m1 g1 m2 g2 m7 g7 m8 g8 m13 m15 x0 x1 x6 x7) (kernelRun0_B.sl.r_42 (F := Ideal) c m1 g1 m2 g2 m6 g6 m7 g7 m8 g8 m13 m14 m15 x0 x1 x5 x6 x7) (kernelRun0_B.sl.v6402 (F := Ideal) c m1 g1 m2 g2 m6 g6 m7 g7 m8 g8 m13 m14 m15 x0 x1 x5 x6 x7) := by
  have e0 : (kernelRun0_B.sl.r_40 (F := Ideal) c m5 g5 x4) = kcol (ldR m5 g5 x4 1 (by decide)) := rfl
  have e1 : (kernelRun0_B.sl.r_41 (F := Ideal) c m1 g1 m2 g2 m7 g7 m8 g8 m13 m15 x0 x1 x6 x7) = kcol (dA (kernelRun0_B.sl.v6296 (F := Ideal) c m8 g8 m13 x7) (FX m1 g1 x0 1 (by decide)) (kernelRun0_B.sl.v6303 (F := Ideal) c m1 g1 m15 x0) (ldR m2 g2 x1 1 (by decide)) (ldR m7 g7 x6 1 (by decide))) := rfl
  have e2 : (kernelRun0_B.sl.r_42 (F := Ideal) c m1 g1 m2 g2 m6 g6 m7 g7 m8 g8 m13 m14 m15 x0 x1 x5 x6 x7) = kcol (dB (kernelRun0_B.sl.v6296 (F := Ideal) c m8 g8 m13 x7) (FX m1 g1 x0 1 (by decide)) (FH m6 g6 x5 1 (by decide)) (kernelRun0_B.sl.v6305 (F := Ideal) c m1 g1 m6 g6 m14 x0 x5) (kernelRun0_B.sl.v6303 (F := Ideal) c m1 g1 m15 x0) (ldR m2 g2 x1 1 (by decide)) (ldR m7 g7 x6 1 (by decide))) := rfl
  have e3 : (kernelRun0_B.sl.v6402 (F := Ideal) c m1 g1 m2 g2 m6 g6 m7 g7 m8 g8 m13 m14 m15 x0 x1 x5 x6 x7) = kcol (dK (kernelRun0_B.sl.v6296 (F := Ideal) c m8 g8 m13 x7) (FX m1 g1 x0 1 (by decide)) (FH m6 g6 x5 1 (by decide)) (kernelRun0_B.sl.v6305 (F := Ideal) c m1 g1 m6 g6 m14 x0 x5) (kernelRun0_B.sl.v6303 (F := Ideal) c m1 g1 m15 x0) (ldR m2 g2 x1 1 (by decide)) (ldR m7 g7 x6 1 (by decide))) := rfl
  rw [e0, e1, e2, e3]
  exact cols (fun s => (ldR_at _ _ _ _ _ s).trans (H.sy _ _)) (coefB1 H)

end Cert.Ker
end
-- ==== Proof.KB12.lean ====
module

public import proofs.«01_k».proof.Proof.Gen.KernelIdeal.Frame
public import proofs.«01_k».proof.Proof.KB11

@[expose] public section
set_option maxRecDepth 16384
noncomputable section

/-! Stores of the kernel, one by one. -/
namespace Cert.Ker
open Cert.KernelIdeal Cert.KernelIdeal.Gen Idealize.ShloMosaic
open Cert.Mth

variable {D : Data 128} {x0 : Vec Ideal S2x128x2432 .fp8e4m3} {x1 : Vec Ideal S2x128 .f32} {x2 : Vec Ideal S2x128x2432 .bf16}
    {x3 : Vec Ideal S2x128x2432 .fp8e5m2} {x4 : Vec Ideal S2x128 .f32} {x5 : Vec Ideal S2x128x2432 .fp8e5m2} {x6 : Vec Ideal S2x128 .f32}
    {x7 : Vec Ideal S2x2432 .f32}
  {m1 : Memref sig .tc .vmem S2x128x2432 .fp8e4m3} {g1 : m1.IsWhole} {m2 : Memref sig .tc .vmem S2x128 .f32} {g2 : m2.IsWhole}
  {m3 : Memref sig .tc .vmem S2x128x2432 .bf16} {g3 : m3.IsWhole} {m4 : Memref sig .tc .vmem S2x128x2432 .fp8e5m2} {g4 : m4.IsWhole}
  {m5 : Memref sig .tc .vmem S2x128 .f32} {g5 : m5.IsWhole} {m6 : Memref sig .tc .vmem S2x128x2432 .fp8e5m2} {g6 : m6.IsWhole}
  {m7 : Memref sig .tc .vmem S2x128 .f32} {g7 : m7.IsWhole} {m8 : Memref sig .tc .vmem S2x2432 .f32} {g8 : m8.IsWhole}
  {m13 : Memref sig .tc .vmem S16x2432 .bf16} {m14 m15 : Memref sig .tc .vmem S128x2432 .bf16} {m16 : Memref sig .tc .vmem S128x2432 .f32} {m17 : Memref sig .tc .vmem S8x2432 .f32} {c : Dev nD}

theorem hs3B1 (H : Holds D x0 x1 x2 x3 x4 x5 x6 x7) : Cov rk (Vm D ⟨1, by decide⟩) 76 (kernelRun0_B.sl.HS3_152 (F := Ideal) c m1 g1 m2 g2 m4 g4 m5 g5 m6 g6 m7 g7 m8 g8 m13 m14 m15 x0 x1 x3 x4 x5 x6 x7) := by
  have C := colsB1 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 76 refine covV H 1 _ (by decide) (by decide) C ?_
  exact Cov.zero _ _ _
theorem hs4B1 (H : Holds D x0 x1 x2 x3 x4 x5 x6 x7) : GI D ⟨1, by decide⟩ 76 (kernelRun0_B.sl.HS4_154 (F := Ideal) c m3 g3 m4 g4 m5 g5 m17 x2 x3 x4) := by
  have C : ∀ s j, @Eq EReal ((kernelRun0_B.sl.r_40 (F := Ideal) c m5 g5 x4) (ix2 s j)) (D.sy ⟨1, by decide⟩ s) := fun s j => (kcol_at _ s j).trans ((ldR_at _ _ _ _ _ s).trans (H.sy _ _))
  iterate 76 refine GI.step H 1 _ (by decide) (by decide) C ?_
  exact GI.zero _ _
theorem mxB1_0 (H : Holds D x0 x1 x2 x3 x4 x5 x6 x7) : MI D ⟨1, by decide⟩ 0 19 (kernelRun0_B.sl.v7156 (F := Ideal) c m1 g1 m2 g2 m4 g4 m5 g5 m6 g6 m7 g7 m8 g8 m13 m14 m15 x0 x1 x3 x4 x5 x6 x7) := by
  have C := colsB1 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 19 refine MI.step H 1 0 _ (by decide) (by decide) C ?_
  exact MI.zero _ _
theorem mxB1_1 (H : Holds D x0 x1 x2 x3 x4 x5 x6 x7) : MI D ⟨1, by decide⟩ 1 19 (kernelRun0_B.sl.v7917 (F := Ideal) c m1 g1 m2 g2 m4 g4 m5 g5 m6 g6 m7 g7 m8 g8 m13 m14 m15 x0 x1 x3 x4 x5 x6 x7) := by
  have C := colsB1 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 19 refine MI.step H 1 1 _ (by decide) (by decide) C ?_
  exact MI.zero _ _
theorem mxB1_2 (H : Holds D x0 x1 x2 x3 x4 x5 x6 x7) : MI D ⟨1, by decide⟩ 2 19 (kernelRun0_B.sl.v8678 (F := Ideal) c m1 g1 m2 g2 m4 g4 m5 g5 m6 g6 m7 g7 m8 g8 m13 m14 m15 x0 x1 x3 x4 x5 x6 x7) := by
  have C := colsB1 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 19 refine MI.step H 1 2 _ (by decide) (by decide) C ?_
  exact MI.zero _ _
theorem mxB1_3 (H : Holds D x0 x1 x2 x3 x4 x5 x6 x7) : MI D ⟨1, by decide⟩ 3 19 (maximumf (kernelRun0_B.sl.v9399 (F := Ideal) c m1 g1 m2 g2 m4 g4 m5 g5 m6 g6 m7 g7 m8 g8 m13 m14 m15 x0 x1 x3 x4 x5 x6 x7) (absf (kernelRun0_B.sl.v9434 (F := Ideal) c m1 g1 m2 g2 m4 g4 m5 g5 m6 g6 m7 g7 m8 g8 m13 m14 m15 x0 x1 x3 x4 x5 x6 x7))) := by
  have C := colsB1 (m1 := m1) (g1 := g1) (m2 := m2) (g2 := g2) (m5 := m5) (g5 := g5) (m6 := m6) (g6 := g6) (m7 := m7) (g7 := g7) (m8 := m8) (g8 := g8) (m13 := m13) (m14 := m14) (m15 := m15) (c := c) H
  iterate 19 refine MI.step H 1 3 _ (by decide) (by decide) C ?_
  exact MI.zero _ _
theorem yB1 (H : Holds D x0 x1 x2 x3 x4 x5 x6 x7) : Is (kernelRun0_B.sl.r_48 (F := Ideal) c m1 g1 m2 g2 m4 g4 m5 g5 m6 g6 m7 g7 m8 g8 m13 m14 m15 x0 x1 x3 x4 x5 x6 x7) fun s => rowY (D.g ⟨1, by decide⟩ s) := kY_is (mxB1_0 H) (mxB1_1 H) (mxB1_2 H) (mxB1_3 H)
theorem sB1 (H : Holds D x0 x1 x2 x3 x4 x5 x6 x7) (G : D.Good) : Is (kernelRun0_B.sl.v9527 (F := Ideal) c m1 g1 m2 g2 m4 g4 m5 g5 m6 g6 m7 g7 m8 g8 m13 m14 m15 x0 x1 x3 x4 x5 x6 x7) (D.scl ⟨1, by decide⟩) :=
  kscl_is (yB1 H) (fun s => rowY_nonneg _) (fun s => rowY_lt _ (G.abs_g ⟨1, by decide⟩ s))
theorem iB1 (H : Holds D x0 x1 x2 x3 x4 x5 x6 x7) (G : D.Good) (s j : Fin 128) : @Eq EReal ((kernelRun0_B.sl.v9536 (F := Ideal) c m1 g1 m2 g2 m4 g4 m5 g5 m6 g6 m7 g7 m8 g8 m13 m14 m15 x0 x1 x3 x4 x5 x6 x7) (ix2 s j)) ((1 / D.scl ⟨1, by decide⟩ s : ℝ) : EReal) :=
  (kcol_at _ s j).trans (kinvs_is (yB1 H) (fun s => rowY_nonneg _) (fun s => rowY_lt _ (G.abs_g ⟨1, by decide⟩ s)) s)

end Cert.Ker
end
-- ==== Proof.KB.lean ====
module

public import proofs.«01_k».proof.Proof.Gen.KernelIdeal.Frame
public import proofs.«01_k».proof.Proof.KB02
public import proofs.«01_k».proof.Proof.KB12

@[expose] public section
set_option maxRecDepth 16384
noncomputable section

/-! What a point of the grid stores. -/
namespace Cert.Ker
open Cert.KernelIdeal Cert.KernelIdeal.Gen Idealize.ShloMosaic
open Cert.Mth

variable {D : Data 128} {x0 : Vec Ideal S2x128x2432 .fp8e4m3} {x1 : Vec Ideal S2x128 .f32} {x2 : Vec Ideal S2x128x2432 .bf16}
    {x3 : Vec Ideal S2x128x2432 .fp8e5m2} {x4 : Vec Ideal S2x128 .f32} {x5 : Vec Ideal S2x128x2432 .fp8e5m2} {x6 : Vec Ideal S2x128 .f32}
    {x7 : Vec Ideal S2x2432 .f32}
  {m1 : Memref sig .tc .vmem S2x128x2432 .fp8e4m3} {g1 : m1.IsWhole} {m2 : Memref sig .tc .vmem S2x128 .f32} {g2 : m2.IsWhole}
  {m3 : Memref sig .tc .vmem S2x128x2432 .bf16} {g3 : m3.IsWhole} {m4 : Memref sig .tc .vmem S2x128x2432 .fp8e5m2} {g4 : m4.IsWhole}
  {m5 : Memref sig .tc .vmem S2x128 .f32} {g5 : m5.IsWhole} {m6 : Memref sig .tc .vmem S2x128x2432 .fp8e5m2} {g6 : m6.IsWhole}
  {m7 : Memref sig .tc .vmem S2x128 .f32} {g7 : m7.IsWhole} {m8 : Memref sig .tc .vmem S2x2432 .f32} {g8 : m8.IsWhole}
  {m13 : Memref sig .tc .vmem S16x2432 .bf16} {m14 m15 : Memref sig .tc .vmem S128x2432 .bf16} {m16 : Memref sig .tc .vmem S128x2432 .f32} {m17 : Memref sig .tc .vmem S8x2432 .f32} {c : Dev nD}

theorem oB0 (H : Holds D x0 x1 x2 x3 x4 x5 x6 x7) (i : Fin 3) (d : Fin 2432) : @Eq EReal ((KO (ldR m7 g7 x6 0 (by decide)) (kernelRun0_B.sl.r_10 (F := Ideal) c m1 g1 m2 g2 m7 g7 m8 g8 m13 m15 x0 x1 x6 x7) (kernelRun0_B.sl.r_9 (F := Ideal) c m1 g1 m2 g2 m7 g7 m8 g8 m13 m15 x0 x1 x6 x7) (FH m6 g6 x5 0 (by decide)) (kernelRun0_B.sl.v5185 (F := Ideal) c m1 g1 m6 g6 m14 x0 x5) (kernelRun0_B.sl.v5203 (F := Ideal) c m3 g3 m4 g4 m5 g5 m17 x2 x3 x4)) (ix2 i d)) (D.out ⟨0, by decide⟩ i d) := by
  obtain ⟨fa, fb, fk, Cf⟩ := coefB0 (m1 := m1) (g1 := g1) (m2 := m2) (g2 := g2) (m6 := m6) (g6 := g6) (m7 := m7) (g7 := g7) (m8 := m8) (g8 := g8) (m13 := m13) (m14 := m14) (m15 := m15) (c := c) H
  refine KO_at D ⟨0, by decide⟩ (fun s => (ldR_at _ _ _ _ _ s).trans (H.sh _ _)) Cf (fun s d => (FH_at _ _ _ _ _ s d).trans (H.h _ _ _)) (fun s d => readAll m14.view (hs1B0 H) (ix2 s d)) (fun d => ?_) i d
  exact (Finset.sum_congr rfl fun i _ => readG m17.view (kernelRun0_B.sl.HS4_77 (F := Ideal) c m3 g3 m4 g4 m5 g5 m17 x2 x3 x4) (ix2 i d)).trans (GI.all (hs4B0 H) d)
theorem oB1 (H : Holds D x0 x1 x2 x3 x4 x5 x6 x7) (i : Fin 3) (d : Fin 2432) : @Eq EReal ((KO (ldR m7 g7 x6 1 (by decide)) (kernelRun0_B.sl.r_39 (F := Ideal) c m1 g1 m2 g2 m7 g7 m8 g8 m13 m15 x0 x1 x6 x7) (kernelRun0_B.sl.r_38 (F := Ideal) c m1 g1 m2 g2 m7 g7 m8 g8 m13 m15 x0 x1 x6 x7) (FH m6 g6 x5 1 (by decide)) (kernelRun0_B.sl.v10401 (F := Ideal) c m1 g1 m6 g6 m14 x0 x5) (kernelRun0_B.sl.v10419 (F := Ideal) c m3 g3 m4 g4 m5 g5 m17 x2 x3 x4)) (ix2 i d)) (D.out ⟨1, by decide⟩ i d) := by
  obtain ⟨fa, fb, fk, Cf⟩ := coefB1 (m1 := m1) (g1 := g1) (m2 := m2) (g2 := g2) (m6 := m6) (g6 := g6) (m7 := m7) (g7 := g7) (m8 := m8) (g8 := g8) (m13 := m13) (m14 := m14) (m15 := m15) (c := c) H
  refine KO_at D ⟨1, by decide⟩ (fun s => (ldR_at _ _ _ _ _ s).trans (H.sh _ _)) Cf (fun s d => (FH_at _ _ _ _ _ s d).trans (H.h _ _ _)) (fun s d => readAll m14.view (hs1B1 H) (ix2 s d)) (fun d => ?_) i d
  exact (Finset.sum_congr rfl fun i _ => readG m17.view (kernelRun0_B.sl.HS4_154 (F := Ideal) c m3 g3 m4 g4 m5 g5 m17 x2 x3 x4) (ix2 i d)).trans (GI.all (hs4B1 H) d)
variable {i : grid0.Coords} {m9 : Memref sig .tc .vmem S2x3x2432 .f32} {g9 : m9.IsWhole} {m10 : Memref sig .tc .vmem S2x1x3x2432 .f32} {g10 : m10.IsWhole}
  {m11 : Memref sig .tc .vmem S2x128x2432 .fp8e5m2} {g11 : m11.IsWhole} {m12 : Memref sig .tc .vmem S2x128 .f32} {g12 : m12.IsWhole}
  {g13 : m13.IsWhole} {g14 : m14.IsWhole} {g15 : m15.IsWhole} {g16 : m16.IsWhole} {g17 : m17.IsWhole}

theorem lB11 (H : Holds D x0 x1 x2 x3 x4 x5 x6 x7) (Gd : D.Good) (hc0 : ¬cond0_0 i) (hc1 : cond0_1 i) (hc2 : ¬cond0_2 i) (hc3 : cond0_3 i) (xo8 : Vec Ideal S2x3x2432 .f32) : Cov (rk0 (by decide)) (Sm D) 2 ((kernelRun0_B (F := Ideal) c i m1 g1 m2 g2 m3 g3 m4 g4 m5 g5 m6 g6 m7 g7 m8 g8 m9 g9 m10 g10 m11 g11 m12 g12 m13 g13 m14 g14 m15 g15 m16 g16 m17 g17 hc0 hc1 hc2 hc3 x0 x1 x2 x3 x4 x5 x6 x7 xo8).2.2.2.1) :=
  covS 1 (by decide) (sB1 H Gd) (covS 0 (by decide) (sB0 H Gd) (Cov.zero _ _ _))
theorem outB11 (H : Holds D x0 x1 x2 x3 x4 x5 x6 x7) (Gd : D.Good) (hc0 : ¬cond0_0 i) (hc1 : cond0_1 i) (hc2 : ¬cond0_2 i) (hc3 : cond0_3 i) (xo8 : Vec Ideal S2x3x2432 .f32) : out0_B_11 (F := Ideal) c i m1 g1 m2 g2 m3 g3 m4 g4 m5 g5 m6 g6 m7 g7 m8 g8 m9 g9 m10 g10 m11 g11 m12 g12 m13 g13 m14 g14 m15 g15 m16 g16 m17 g17 hc0 hc1 hc2 hc3 x0 x1 x2 x3 x4 x5 x6 x7 xo8 = Sm D := by
  funext y
  refine (View.read_writes_junk_apply_eq_canon VO0_11 y _).trans ?_
  exact Cov.two (lB11 H Gd hc0 hc1 hc2 hc3 xo8) rfl y
theorem lB9 (H : Holds D x0 x1 x2 x3 x4 x5 x6 x7) (hc0 : ¬cond0_0 i) (hc1 : cond0_1 i) (hc2 : ¬cond0_2 i) (hc3 : cond0_3 i) (xo8 : Vec Ideal S2x3x2432 .f32) : Cov (rk0 (by decide)) (Bm D) 2 ((kernelRun0_B (F := Ideal) c i m1 g1 m2 g2 m3 g3 m4 g4 m5 g5 m6 g6 m7 g7 m8 g8 m9 g9 m10 g10 m11 g11 m12 g12 m13 g13 m14 g14 m15 g15 m16 g16 m17 g17 hc0 hc1 hc2 hc3 x0 x1 x2 x3 x4 x5 x6 x7 xo8).2.1) :=
  covB 1 (by decide) (oB1 H) (covB 0 (by decide) (oB0 H) (Cov.zero _ _ _))
theorem outB9 (H : Holds D x0 x1 x2 x3 x4 x5 x6 x7) (hc0 : ¬cond0_0 i) (hc1 : cond0_1 i) (hc2 : ¬cond0_2 i) (hc3 : cond0_3 i) (xo8 : Vec Ideal S2x3x2432 .f32) : out0_B_9 (F := Ideal) c i m1 g1 m2 g2 m3 g3 m4 g4 m5 g5 m6 g6 m7 g7 m8 g8 m9 g9 m10 g10 m11 g11 m12 g12 m13 g13 m14 g14 m15 g15 m16 g16 m17 g17 hc0 hc1 hc2 hc3 x0 x1 x2 x3 x4 x5 x6 x7 xo8 = Bm D := by
  funext y
  refine (View.read_writes_junk_apply_eq_canon VO0_9 y _).trans ?_
  exact Cov.two (lB9 H hc0 hc1 hc2 hc3 xo8) rfl y
theorem lB8 (H : Holds D x0 x1 x2 x3 x4 x5 x6 x7) (hc0 : ¬cond0_0 i) (hc1 : cond0_1 i) (hc2 : ¬cond0_2 i) (hc3 : cond0_3 i) (xo8 : Vec Ideal S2x3x2432 .f32) : Cov (rk0 (by decide)) (Dm D xo8) 2 ((kernelRun0_B (F := Ideal) c i m1 g1 m2 g2 m3 g3 m4 g4 m5 g5 m6 g6 m7 g7 m8 g8 m9 g9 m10 g10 m11 g11 m12 g12 m13 g13 m14 g14 m15 g15 m16 g16 m17 g17 hc0 hc1 hc2 hc3 x0 x1 x2 x3 x4 x5 x6 x7 xo8).1) :=
  covD 1 (by decide) (add8_at (m := m9) (hm := g9) 1 (by decide) (oB1 H)) (covD 0 (by decide) (add8_at (m := m9) (hm := g9) 0 (by decide) (oB0 H)) (Cov.zero _ _ _))
theorem outB8 (H : Holds D x0 x1 x2 x3 x4 x5 x6 x7) (hc0 : ¬cond0_0 i) (hc1 : cond0_1 i) (hc2 : ¬cond0_2 i) (hc3 : cond0_3 i) (xo8 : Vec Ideal S2x3x2432 .f32) : out0_B_8 (F := Ideal) c i m1 g1 m2 g2 m3 g3 m4 g4 m5 g5 m6 g6 m7 g7 m8 g8 m9 g9 m10 g10 m11 g11 m12 g12 m13 g13 m14 g14 m15 g15 m16 g16 m17 g17 hc0 hc1 hc2 hc3 x0 x1 x2 x3 x4 x5 x6 x7 xo8 = Dm D xo8 := by
  funext y
  refine (View.read_writes_junk_apply_eq_canon VO0_8 y _).trans ?_
  exact Cov.two (lB8 H hc0 hc1 hc2 hc3 xo8) rfl y
theorem lB10 (H : Holds D x0 x1 x2 x3 x4 x5 x6 x7) (Gd : D.Good) (hc0 : ¬cond0_0 i) (hc1 : cond0_1 i) (hc2 : ¬cond0_2 i) (hc3 : cond0_3 i) (xo8 : Vec Ideal S2x3x2432 .f32) : Cov rk3 (Cm D) 152 ((kernelRun0_B (F := Ideal) c i m1 g1 m2 g2 m3 g3 m4 g4 m5 g5 m6 g6 m7 g7 m8 g8 m9 g9 m10 g10 m11 g11 m12 g12 m13 g13 m14 g14 m15 g15 m16 g16 m17 g17 hc0 hc1 hc2 hc3 x0 x1 x2 x3 x4 x5 x6 x7 xo8).2.2.1) := by
  have V0 := hs3B0 (m1 := m1) (g1 := g1) (m2 := m2) (g2 := g2) (m4 := m4) (g4 := g4) (m5 := m5) (g5 := g5) (m6 := m6) (g6 := g6) (m7 := m7) (g7 := g7) (m8 := m8) (g8 := g8) (m13 := m13) (m14 := m14) (m15 := m15) (c := c) H
  have I0 := iB0 (m1 := m1) (g1 := g1) (m2 := m2) (g2 := g2) (m4 := m4) (g4 := g4) (m5 := m5) (g5 := g5) (m6 := m6) (g6 := g6) (m7 := m7) (g7 := g7) (m8 := m8) (g8 := g8) (m13 := m13) (m14 := m14) (m15 := m15) (c := c) H Gd
  have V1 := hs3B1 (m1 := m1) (g1 := g1) (m2 := m2) (g2 := g2) (m4 := m4) (g4 := g4) (m5 := m5) (g5 := g5) (m6 := m6) (g6 := g6) (m7 := m7) (g7 := g7) (m8 := m8) (g8 := g8) (m13 := m13) (m14 := m14) (m15 := m15) (c := c) H
  have I1 := iB1 (m1 := m1) (g1 := g1) (m2 := m2) (g2 := g2) (m4 := m4) (g4 := g4) (m5 := m5) (g5 := g5) (m6 := m6) (g6 := g6) (m7 := m7) (g7 := g7) (m8 := m8) (g8 := g8) (m13 := m13) (m14 := m14) (m15 := m15) (c := c) H Gd
  iterate 76 refine covC1 (m16 := m16) V1 I1 _ (by decide) (by decide) ?_
  iterate 76 refine covC0 (m16 := m16) V0 I0 _ (by decide) ?_
  exact Cov.zero _ _ _
theorem outB10 (H : Holds D x0 x1 x2 x3 x4 x5 x6 x7) (Gd : D.Good) (hc0 : ¬cond0_0 i) (hc1 : cond0_1 i) (hc2 : ¬cond0_2 i) (hc3 : cond0_3 i) (xo8 : Vec Ideal S2x3x2432 .f32) : out0_B_10 (F := Ideal) c i m1 g1 m2 g2 m3 g3 m4 g4 m5 g5 m6 g6 m7 g7 m8 g8 m9 g9 m10 g10 m11 g11 m12 g12 m13 g13 m14 g14 m15 g15 m16 g16 m17 g17 hc0 hc1 hc2 hc3 x0 x1 x2 x3 x4 x5 x6 x7 xo8 = Cm D := by
  funext y
  refine (View.read_writes_junk_apply_eq_canon VO0_10 y _).trans ?_
  exact Cov.all3 (lB10 H Gd hc0 hc1 hc2 hc3 xo8) y

end Cert.Ker
end
-- ==== Proof.KRun.lean ====
module

public import proofs.«01_k».proof.Proof.Gen.KernelIdeal.Frame
public import Idealize.ShloMosaic.Lib.Pipeline.ValueKit
public import Idealize.ShloMosaic.Lib.Pointwise
public import proofs.«01_k».proof.Proof.KA
public import proofs.«01_k».proof.Proof.KB

@[expose] public section
set_option maxRecDepth 16384
noncomputable section

/-! The kernel's four result arrays, from the inputs as real numbers. -/
namespace Cert.Ker
open Cert.KernelIdeal Cert.KernelIdeal.Gen Idealize.ShloMosaic Idealize.ShloMosaic.TcCoe
open Cert.Mth

/-- Eight whole arrays hold the inputs `D`. -/
structure HoldsA (D : Data 1024) (x0 : Vec Ideal S2x1024x2432 .fp8e4m3) (x1 : Vec Ideal S2x1024 .f32) (x2 : Vec Ideal S2x1024x2432 .bf16)
    (x3 : Vec Ideal S2x1024x2432 .fp8e5m2) (x4 : Vec Ideal S2x1024 .f32) (x5 : Vec Ideal S2x1024x2432 .fp8e5m2) (x6 : Vec Ideal S2x1024 .f32)
    (x7 : Vec Ideal S2x2432 .f32) : Prop where
  x : ∀ b s d, @Eq EReal (x0 (ix3 b s d)) (D.x b s d)
  sx : ∀ b s, @Eq EReal (x1 (ix2 b s)) (D.sx b s)
  f : ∀ b s d, @Eq EReal (x2 (ix3 b s d)) (D.f b s d)
  y : ∀ b s d, @Eq EReal (x3 (ix3 b s d)) (D.y b s d)
  sy : ∀ b s, @Eq EReal (x4 (ix2 b s)) (D.sy b s)
  h : ∀ b s d, @Eq EReal (x5 (ix3 b s d)) (D.h b s d)
  sh : ∀ b s, @Eq EReal (x6 (ix2 b s)) (D.sh b s)
  w : ∀ b d, @Eq EReal (x7 (ix2 b d)) (D.w b d)

variable (m : (ℓ : Loc nD τ sig) → Buf (Elt Ideal) ℓ) (c : Dev nD) {D : Data 1024}

/-- The memory the kernel call starts from holds the inputs `D`. -/
abbrev HoldsV (D : Data 1024) : Prop := HoldsA D (V m c main_v0) (V m c main_arg1) (V m c main_arg2) (V m c main_v1) (V m c main_arg4) (V m c main_v2) (V m c main_arg6) (V m c main_arg7)

/-- A point of the grid as the number of its block of rows. -/
def pt (t : Fin cfg0.N) : Fin 8 := ⟨t.val, lt_of_lt_of_eq t.isLt N_0⟩

theorem idxs : ∀ t : Fin cfg0.N, win0_0.index t = ![0,t.val,0] ∧ win0_1.index t = ![0,t.val] ∧ win0_2.index t = ![0,t.val,0] ∧ win0_3.index t = ![0,t.val,0] ∧ win0_4.index t = ![0,t.val] ∧ win0_5.index t = ![0,t.val,0] ∧ win0_6.index t = ![0,t.val] ∧ win0_7.index t = ![0,0] ∧ win0_8.index t = ![0,0,0] ∧ win0_9.index t = ![0,t.val,0,0] ∧ win0_10.index t = ![0,t.val,0] ∧ win0_11.index t = ![0,t.val] :=
  (by decide +kernel : ∀ t : Fin grid0.N, win0_0.index t = ![0,t.val,0] ∧ win0_1.index t = ![0,t.val] ∧ win0_2.index t = ![0,t.val,0] ∧ win0_3.index t = ![0,t.val,0] ∧ win0_4.index t = ![0,t.val] ∧ win0_5.index t = ![0,t.val,0] ∧ win0_6.index t = ![0,t.val] ∧ win0_7.index t = ![0,0] ∧ win0_8.index t = ![0,0,0] ∧ win0_9.index t = ![0,t.val,0,0] ∧ win0_10.index t = ![0,t.val,0] ∧ win0_11.index t = ![0,t.val])

theorem in0 (t : Fin cfg0.N) (b : Fin 2) (s : Fin 128) (d : Fin 2432) : @Eq EReal (iblk m c 0 t (ix3 b s d)) (V m c main_v0 (ix3 b ⟨(pt t).val * 128 + s.val, by omega⟩ d)) := by
  blk_ext [iblk, idxs t, pt]
theorem in2 (t : Fin cfg0.N) (b : Fin 2) (s : Fin 128) (d : Fin 2432) : @Eq EReal (iblk m c 2 t (ix3 b s d)) (V m c main_arg2 (ix3 b ⟨(pt t).val * 128 + s.val, by omega⟩ d)) := by
  blk_ext [iblk, idxs t, pt]
theorem in3 (t : Fin cfg0.N) (b : Fin 2) (s : Fin 128) (d : Fin 2432) : @Eq EReal (iblk m c 3 t (ix3 b s d)) (V m c main_v1 (ix3 b ⟨(pt t).val * 128 + s.val, by omega⟩ d)) := by
  blk_ext [iblk, idxs t, pt]
theorem in5 (t : Fin cfg0.N) (b : Fin 2) (s : Fin 128) (d : Fin 2432) : @Eq EReal (iblk m c 5 t (ix3 b s d)) (V m c main_v2 (ix3 b ⟨(pt t).val * 128 + s.val, by omega⟩ d)) := by
  blk_ext [iblk, idxs t, pt]
theorem in1 (t : Fin cfg0.N) (b : Fin 2) (s : Fin 128) : @Eq EReal (iblk m c 1 t (ix2 b s)) (V m c main_arg1 (ix2 b ⟨(pt t).val * 128 + s.val, by omega⟩)) := by
  blk_ext [iblk, idxs t, pt]
theorem in4 (t : Fin cfg0.N) (b : Fin 2) (s : Fin 128) : @Eq EReal (iblk m c 4 t (ix2 b s)) (V m c main_arg4 (ix2 b ⟨(pt t).val * 128 + s.val, by omega⟩)) := by
  blk_ext [iblk, idxs t, pt]
theorem in6 (t : Fin cfg0.N) (b : Fin 2) (s : Fin 128) : @Eq EReal (iblk m c 6 t (ix2 b s)) (V m c main_arg6 (ix2 b ⟨(pt t).val * 128 + s.val, by omega⟩)) := by
  blk_ext [iblk, idxs t, pt]
theorem in7 (t : Fin cfg0.N) (b : Fin 2) (d : Fin 2432) : @Eq EReal (iblk m c 7 t (ix2 b d)) (V m c main_arg7 (ix2 b d)) := by
  blk_ext [iblk, idxs t]

theorem holds_blk (H : HoldsV m c D) (t : Fin cfg0.N) :
    Holds (D.block (pt t)) (iblk m c 0 t) (iblk m c 1 t) (iblk m c 2 t) (iblk m c 3 t) (iblk m c 4 t) (iblk m c 5 t) (iblk m c 6 t) (iblk m c 7 t) where
  x b s d := (in0 m c t b s d).trans (H.x _ _ _)
  sx b s := (in1 m c t b s).trans (H.sx _ _)
  f b s d := (in2 m c t b s d).trans (H.f _ _ _)
  y b s d := (in3 m c t b s d).trans (H.y _ _ _)
  sy b s := (in4 m c t b s).trans (H.sy _ _)
  h b s d := (in5 m c t b s d).trans (H.h _ _ _)
  sh b s := (in6 m c t b s).trans (H.sh _ _)
  w b d := (in7 m c t b d).trans (H.w _ _)

theorem fst_pt (t : Fin cfg0.N) (h : t.val % 8 = 0) : ¬1 ≤ t.val := by have := (pt t).isLt; simp only [pt] at this; omega
theorem lat_pt (t : Fin cfg0.N) (h : ¬t.val % 8 = 0) : 1 ≤ t.val := by omega

theorem step0 (H : HoldsV m c D) (t : Fin cfg0.N) (h : t.val % 8 = 0) (i : S2x3x2432.Idx) :
    @Eq EReal ((outsAt0 m c t.val t.isLt).1 i) (0 + (D.block (pt t)).out (i 0) (i 1) (i 2)) := by
  rw [outsAt0_A m c t h (fst_pt t h) h (fst_pt t h)]
  dsimp only
  rw [outA8 (holds_blk m c H t)]
  exact (zero_add _).symm

theorem stepS (H : HoldsV m c D) (t : Fin cfg0.N) (h : ¬t.val % 8 = 0) (i : S2x3x2432.Idx) :
    @Eq EReal ((outsAt0 m c t.val t.isLt).1 i) ((outsAt0 m c (t.val - 1) (Nat.lt_of_le_of_lt (Nat.sub_le _ _) t.isLt)).1 i + (D.block (pt t)).out (i 0) (i 1) (i 2)) := by
  rw [outsAt0_B m c t h (lat_pt t h) h (lat_pt t h)]
  dsimp only
  rw [outB8 (holds_blk m c H t)]
  rfl

theorem sum8 (H : HoldsV m c D) (t : Fin cfg0.N) (ht : t.val + 1 = cfg0.N) (i : S2x3x2432.Idx) :
    @Eq EReal ((outsAt0 m c t.val t.isLt).1 i) (∑ n, (D.block n).out (i 0) (i 1) (i 2)) := by
  refine (Pipeline.eq_sum_fin_of_reset_step_apply_last (M := EReal) (fun n h => (outsAt0 m c n h).1) 8 (fun _ => 0)
    (fun t i => (D.block (pt t)).out (i 0) (i 1) (i 2)) (fun t h i => step0 m c H t h i) (fun t h i => stepS m c H t h i) (le_of_eq N_0) t ht i).trans ?_
  rw [zero_add]
  exact Equiv.sum_comp (finCongr N_0) fun n : Fin 8 => (D.block n).out (i 0) (i 1) (i 2)

theorem at9 (H : HoldsV m c D) (t : Fin cfg0.N) : (outsAt0 m c t.val t.isLt).2.1 = Bm (D.block (pt t)) := by
  by_cases h : t.val % 8 = 0
  · rw [outsAt0_A m c t h (fst_pt t h) h (fst_pt t h)]
    dsimp only
    rw [outA9 (holds_blk m c H t)]
  · rw [outsAt0_B m c t h (lat_pt t h) h (lat_pt t h)]
    dsimp only
    rw [outB9 (holds_blk m c H t)]
theorem at10 (H : HoldsV m c D) (Gd : D.Good) (t : Fin cfg0.N) : (outsAt0 m c t.val t.isLt).2.2.1 = Cm (D.block (pt t)) := by
  by_cases h : t.val % 8 = 0
  · rw [outsAt0_A m c t h (fst_pt t h) h (fst_pt t h)]
    dsimp only
    rw [outA10 (holds_blk m c H t) (Gd.block (pt t))]
  · rw [outsAt0_B m c t h (lat_pt t h) h (lat_pt t h)]
    dsimp only
    rw [outB10 (holds_blk m c H t) (Gd.block (pt t))]
theorem at11 (H : HoldsV m c D) (Gd : D.Good) (t : Fin cfg0.N) : (outsAt0 m c t.val t.isLt).2.2.2 = Sm (D.block (pt t)) := by
  by_cases h : t.val % 8 = 0
  · rw [outsAt0_A m c t h (fst_pt t h) h (fst_pt t h)]
    dsimp only
    rw [outA11 (holds_blk m c H t) (Gd.block (pt t))]
  · rw [outsAt0_B m c t h (lat_pt t h) h (lat_pt t h)]
    dsimp only
    rw [outB11 (holds_blk m c H t) (Gd.block (pt t))]

theorem last_pt : ∀ t : Fin cfg0.N, (cfg0.win 8).flush t = true → t.val + 1 = cfg0.N :=
  (by decide +kernel : ∀ t : Fin grid0.N, win0_8.flush t = true → t.val + 1 = grid0.N)

theorem emb8 (t : Fin cfg0.N) (y0 : Fin 2) (y1 : Fin 3) (y2 : Fin 2432) : ((View.whole main_v3_0).slice (win0_8.rect t)).emb (ix3 y0 y1 y2) = (ix3 y0 y1 y2 : S2x3x2432.Idx) := by
  have h := (idxs t).2.2.2.2.2.2.2.2.1
  blk_ext [h]

theorem emb9 (t : Fin cfg0.N) (y0 : Fin 2) (y1 : Fin 1) (y2 : Fin 3) (y3 : Fin 2432) : ((View.whole main_v3_1).slice (win0_9.rect t)).emb (ix4 y0 y1 y2 y3) = (ix4 y0 (pt t) y2 y3 : S2x8x3x2432.Idx) := by
  have h := (idxs t).2.2.2.2.2.2.2.2.2.1
  blk_ext [h, pt]

theorem emb10 (t : Fin cfg0.N) (b : Fin 2) (s : Fin 128) (d : Fin 2432) : ((View.whole main_v3_2).slice (win0_10.rect t)).emb (ix3 b s d) = (ix3 b ⟨(pt t).val * 128 + s.val, by omega⟩ d : S2x1024x2432.Idx) := by
  have h := (idxs t).2.2.2.2.2.2.2.2.2.2.1
  blk_ext [h, pt]

theorem emb11 (t : Fin cfg0.N) (b : Fin 2) (s : Fin 128) : ((View.whole main_v3_3).slice (win0_11.rect t)).emb (ix2 b s) = (ix2 b ⟨(pt t).val * 128 + s.val, by omega⟩ : S2x1024.Idx) := by
  have h := (idxs t).2.2.2.2.2.2.2.2.2.2.2
  blk_ext [h, pt]

theorem arr8 (H : HoldsV m c D) : (dats m 0 c).arrAt 8 cfg0.N = fun i : S2x3x2432.Idx => (∑ n, (D.block n).out (i 0) (i 1) (i 2) : EReal) := by
  refine (dats m 0 c).arrAt_eq_of_covers 8 _ (by decide +kernel) fun t hf y => ?_
  blk_simp; rw [after0_8]
  idx_vars y
  refine (sum8 m c H t (last_pt t hf) _).trans ?_
  exact (congrArg (fun i : S2x3x2432.Idx => (∑ n, (D.block n).out (i 0) (i 1) (i 2) : EReal)) (emb8 t y0 y1 y2)).symm

theorem arr9 (H : HoldsV m c D) : (dats m 0 c).arrAt 9 cfg0.N = fun i : S2x8x3x2432.Idx => ((D.block (i 1)).out (i 0) (i 2) (i 3) : EReal) := by
  refine (dats m 0 c).arrAt_eq_of_covers 9 _ (by decide +kernel) fun t hf y => ?_
  blk_simp; rw [after0_9, at9 m c H t]
  idx_vars y
  exact (congrArg (fun i : S2x8x3x2432.Idx => ((D.block (i 1)).out (i 0) (i 2) (i 3) : EReal)) (emb9 t y0 y1 y2 y3)).symm

theorem arr10 (H : HoldsV m c D) (Gd : D.Good) : (dats m 0 c).arrAt 10 cfg0.N = fun i : S2x1024x2432.Idx => (D.cod (i 0) (i 1) (i 2) : EReal) := by
  refine (dats m 0 c).arrAt_eq_of_covers 10 _ (by decide +kernel) fun t hf y => ?_
  blk_simp; rw [after0_10, at10 m c H Gd t]
  idx_vars y
  exact (congrArg (fun i : S2x1024x2432.Idx => (D.cod (i 0) (i 1) (i 2) : EReal)) (emb10 t y0 y1 y2)).symm

theorem arr11 (H : HoldsV m c D) (Gd : D.Good) : (dats m 0 c).arrAt 11 cfg0.N = fun i : S2x1024.Idx => (D.scl (i 0) (i 1) : EReal) := by
  refine (dats m 0 c).arrAt_eq_of_covers 11 _ (by decide +kernel) fun t hf y => ?_
  blk_simp; rw [after0_11, at11 m c H Gd t]
  idx_vars y
  exact (congrArg (fun i : S2x1024.Idx => (D.scl (i 0) (i 1) : EReal)) (emb11 t y0 y1)).symm

end Cert.Ker
end
-- ==== Proof.Ref.lean ====
module

public import proofs.«01_k».proof.Proof.Gen.ReferenceIdeal.Skeleton
public import Idealize.ShloMosaic.Lib.Pointwise
public import Idealize.ShloMosaic.Lib.IdealHost
public import proofs.«01_k».proof.Proof.Math
public import proofs.«01_k».proof.Proof.Spec

@[expose] public section
set_option maxRecDepth 16384
noncomputable section

/-! The reference's intermediate values at an index, as real numbers. -/
namespace Cert.Ref
open Cert.ReferenceIdeal Cert.ReferenceIdeal.Gen Idealize.ShloMosaic
open Cert.Mth
open Cert.ReferenceIdeal.Facts

section
variable {v0 : Vec Ideal S2x1024x2432 .fp8e4m3} {v3 v10 v17 : Vec Ideal S2x1024 .f32} {v7 v14 : Vec Ideal S2x1024x2432 .fp8e5m2}
variable {x y h : Fin 2 → Fin 1024 → Fin 2432 → ℝ} {sx sy sh : Fin 2 → Fin 1024 → ℝ}

theorem pay6_at (hx : ∀ b s d, @Eq EReal (v0 (ix3 b s d)) (x b s d)) (hs : ∀ b s, @Eq EReal (v3 (ix2 b s)) (sx b s)) (b : Fin 2) (s : Fin 1024) (d : Fin 2432) :
    @Eq EReal (k0_pay6 v0 v3 (ix3 b s d)) ((x b s d * sx b s - mean (x b s) * sx b s : ℝ) : EReal) := by
  have : @Eq EReal (k0_pay6 v0 v3 (ix3 b s d)) (v0 (ix3 b s d) * v3 (ix2 b s) - Ideal.div (∑ e, v0 (ix3 b s e) * v3 (ix2 b s)) (Ideal.ofBits .f32 0x45180000#32)) := by
    pointwise [k0_pay6]
  rw [this, ofBits_2432, Ideal.div_coe (by norm_num)]
  simp only [hx, hs, ← EReal.coe_mul, coe_sum, ← EReal.coe_sub]
  congr 2
  rw [← mean_mul]; rfl

theorem pay7_at (hx : ∀ b s d, @Eq EReal (v0 (ix3 b s d)) (x b s d)) (hs : ∀ b s, @Eq EReal (v3 (ix2 b s)) (sx b s)) (b : Fin 2) (s : Fin 1024) :
    @Eq EReal (k0_pay7 v0 v3 (ix3 b s 0)) (rstd eps (x b s) (sx b s)) := by
  have : @Eq EReal (k0_pay7 v0 v3 (ix3 b s 0)) (Ideal.rsqrt (Ideal.div (∑ e, k0_pay6 v0 v3 (ix3 b s e) * k0_pay6 v0 v3 (ix3 b s e)) (Ideal.ofBits .f32 0x45180000#32) + Ideal.ofBits .f32 0x358637BD#32)) := by
    pointwise [k0_pay7]
  rw [this, ofBits_2432, Ideal.div_coe (by norm_num), ofBits_eps]
  simp only [pay6_at hx hs, ← EReal.coe_mul, coe_sum, ← EReal.coe_add]
  have e : (∑ e, (x b s e * sx b s - mean (x b s) * sx b s) * (x b s e * sx b s - mean (x b s) * sx b s)) * (1 / 2432) = var (x b s) * sx b s * sx b s := by
    rw [← var_mul]; unfold var; rw [mean_mul]; rfl
  rw [e]
  have hp : 0 < var (x b s) * sx b s * sx b s + eps := by nlinarith [mul_nonneg (var_nonneg (x b s)) (mul_self_nonneg (sx b s)), eps_pos]
  rw [Ideal.rsqrt_coe, if_neg (not_lt.mpr hp.le), if_neg hp.ne']
  rfl

theorem pay8_at (hx : ∀ b s d, @Eq EReal (v0 (ix3 b s d)) (x b s d)) (hs : ∀ b s, @Eq EReal (v3 (ix2 b s)) (sx b s)) (b : Fin 2) (s : Fin 1024) (d : Fin 2432) :
    @Eq EReal (k0_pay8 v0 v3 (ix3 b s d)) (xhat eps (x b s) (sx b s) d) := by
  have : @Eq EReal (k0_pay8 v0 v3 (ix3 b s d)) (k0_pay6 v0 v3 (ix3 b s d) * k0_pay7 v0 v3 (ix3 b s 0)) := by
    pointwise [k0_pay8]
  rw [this, pay6_at hx hs, pay7_at hx hs, ← EReal.coe_mul]; rfl

theorem pay4_at (hx : ∀ b s d, @Eq EReal (v7 (ix3 b s d)) (y b s d)) (hs : ∀ b s, @Eq EReal (v10 (ix2 b s)) (sy b s)) (b : Fin 2) (s : Fin 1024) (d : Fin 2432) :
    @Eq EReal (k0_pay4 v7 v10 (ix3 b s d)) ((y b s d * sy b s : ℝ) : EReal) := by
  have : @Eq EReal (k0_pay4 v7 v10 (ix3 b s d)) (v7 (ix3 b s d) * v10 (ix2 b s)) := by
    pointwise [k0_pay4]
  rw [this, hx, hs, ← EReal.coe_mul]

theorem pay5_at (hx : ∀ b s d, @Eq EReal (v14 (ix3 b s d)) (h b s d)) (hs : ∀ b s, @Eq EReal (v17 (ix2 b s)) (sh b s)) (b : Fin 2) (s : Fin 1024) (d : Fin 2432) :
    @Eq EReal (k0_pay5 v14 v17 (ix3 b s d)) ((h b s d * sh b s : ℝ) : EReal) := by
  have : @Eq EReal (k0_pay5 v14 v17 (ix3 b s d)) (v14 (ix3 b s d) * v17 (ix2 b s)) := by
    pointwise [k0_pay5]
  rw [this, hx, hs, ← EReal.coe_mul]

theorem pay9_at (hx : ∀ b s d, @Eq EReal (v14 (ix3 b s d)) (h b s d)) (hs : ∀ b s, @Eq EReal (v17 (ix2 b s)) (sh b s)) (b : Fin 2) (n : Fin 8) (d : Fin 2432) :
    @Eq EReal (k0_pay9 v14 v17 (ix3 b n d)) ((∑ i : Fin 128, h b ⟨n.val * 128 + i.val, by omega⟩ d * sh b ⟨n.val * 128 + i.val, by omega⟩ : ℝ) : EReal) := by
  have : @Eq EReal (k0_pay9 v14 v17 (ix3 b n d)) (∑ i : Fin 128, k0_pay5 v14 v17 (ix3 b ⟨n.val * 128 + i.val, by omega⟩ d)) := by
    pointwise [k0_pay9]
  rw [this]; simp only [pay5_at hx hs, coe_sum]
end

section
variable {v13 v20 v36 : FVec Ideal S2x1024x2432 .f32} {v38 : FVec Ideal S2x8x2432 .f32} {v44 : Vec Ideal S2x1024x2432 .bf16}

/-- One row of the three of a block: the gradients of the shift, of the scale and of the gate. -/
theorem pay10_at (b : Fin 2) (n : Fin 8) (k : Fin 3) (d : Fin 2432) :
    @Eq EReal (k0_pay10 v13 v20 v36 v38 v44 (ix4 b n k d))
      (if k = 0 then v38 (ix3 b n d)
       else if k = 1 then ∑ i : Fin 128, v20 (ix3 b ⟨n.val * 128 + i.val, by omega⟩ d) * v36 (ix3 b ⟨n.val * 128 + i.val, by omega⟩ d)
       else ∑ i : Fin 128, v13 (ix3 b ⟨n.val * 128 + i.val, by omega⟩ d) * v44 (ix3 b ⟨n.val * 128 + i.val, by omega⟩ d)) := by
  pointwise [k0_pay10]
  fin_cases k <;> rfl

theorem pay11_at (b : Fin 2) (k : Fin 3) (d : Fin 2432) :
    @Eq EReal (k0_pay11 v13 v20 v36 v38 v44 (ix3 b k d)) (∑ n : Fin 8, k0_pay10 v13 v20 v36 v38 v44 (ix4 b n k d)) := by
  pointwise [k0_pay11]
end

section
variable {v13 v20 v36 : FVec Ideal S2x1024x2432 .f32} {v34 : FVec Ideal S2x1024x1 .f32} {v54 : Vec Ideal S2x2432 .f32}
variable {x y h : Fin 2 → Fin 1024 → Fin 2432 → ℝ} {sx sy sh : Fin 2 → Fin 1024 → ℝ} {w : Fin 2 → Fin 2432 → ℝ}

theorem pay12_at (h13 : ∀ b s d, @Eq EReal (v13 (ix3 b s d)) ((y b s d * sy b s : ℝ) : EReal))
    (h20 : ∀ b s d, @Eq EReal (v20 (ix3 b s d)) ((h b s d * sh b s : ℝ) : EReal))
    (h34 : ∀ b s, @Eq EReal (v34 (ix3 b s 0)) (rstd eps (x b s) (sx b s)))
    (h36 : ∀ b s d, @Eq EReal (v36 (ix3 b s d)) (xhat eps (x b s) (sx b s) d))
    (hw : ∀ b d, @Eq EReal (v54 (ix2 b d)) (w b d)) (b : Fin 2) (s : Fin 1024) (d : Fin 2432) :
    @Eq EReal (k0_pay12 v13 v20 v34 v36 v54 (ix3 b s d))
      (dx eps (x b s) (sx b s) (y b s) (sy b s) (h b s) (sh b s) (fun d => 1 + w b d) d) := by
  have : @Eq EReal (k0_pay12 v13 v20 v34 v36 v54 (ix3 b s d))
      (v13 (ix3 b s d) + v34 (ix3 b s 0) * (v20 (ix3 b s d) * (1 + v54 (ix2 b d))
        - Ideal.div (∑ e, v20 (ix3 b s e) * (1 + v54 (ix2 b e))) (Ideal.ofBits .f32 0x45180000#32)
        - v36 (ix3 b s d) * Ideal.div (∑ e, (v20 (ix3 b s e) * (1 + v54 (ix2 b e))) * v36 (ix3 b s e)) (Ideal.ofBits .f32 0x45180000#32))) := by
    pointwise [k0_pay12]
  rw [this, ofBits_2432, Ideal.div_coe (by norm_num), Ideal.div_coe (by norm_num)]
  simp only [h13, h20, h34, h36, hw]
  rw [show (1 : EReal) = ((1 : ℝ) : EReal) from rfl]
  simp only [← EReal.coe_mul, coe_sum, ← EReal.coe_sub, ← EReal.coe_add]
  rfl
end

section
variable {F : FTy → Type} [FloatOps F] [Named F]
/-- The greatest magnitude of each row. -/
def stageM (v76 : FVec F S2x1024x2432 .f32) : FVec F S2x1024 .f32 :=
  multiReduction .maximumf [2] S2x1024 (absf v76) 0xFF800000#32 reduces_S2x1024x2432_S2x1024 (.inl rfl) rfl

/-- Each row's number over the largest code. -/
def stageY (v78 : FVec F S2x1024 .f32) : FVec F S2x1024x1 .f32 :=
  mulf (shapeCast S2x1024x1 v78 shapeCasts_S2x1024_S2x1024x1) (broadcast S2x1024x1 (Named.named κ "inv_max" 0x37924925#32))

/-- The 253 powers of two. -/
def stageP : FVec F S2x1024x253 .f32 :=
  have v82 : IVec S2x1024x253 32 := iota .tc S2x1024x253 32 [2] iota_S2x1024x253_d2_w32
  have v83 : IVec S2x1024x253 32 := broadcast S2x1024x253 125#32
  have v84 : IVec S2x1024x253 32 := subi v82 v83
  have v85 : FVec F S2x1024x253 .f32 := sitofp .f32 v84
  exp2 v85

/-- The least power above each row's number. -/
def stageS (v81 : FVec F S2x1024x1 .f32) (v86 : FVec F S2x1024x253 .f32) : FVec F S2x1024x1 .f32 :=
  have v87 : FVec F S2x1024x253 .f32 := broadcastTo S2x1024x253 v81 broadcasts_S2x1024x1_S2x1024x253
  have v88 : IVec S2x1024x253 1 := cmpf .ogt v86 v87
  have cst_41 : F .f32 := Scalar.ofBits .f32 0x7F800000#32
  have v89 : FVec F S2x1024x253 .f32 := broadcast S2x1024x253 cst_41
  have v90 : FVec F S2x1024x253 .f32 := select v88 v86 v89
  have v91 : FVec F S2x1024 .f32 := multiReduction .minimumf [2] S2x1024 v90 0x7F800000#32 reduces_S2x1024x253_S2x1024 (.inl rfl) rfl
  have v92 : FVec F S2x1024x1 .f32 := shapeCast S2x1024x1 v91 shapeCasts_S2x1024_S2x1024x1
  have cst_43 : F .f32 := Scalar.ofBits .f32 0x00800000#32
  have v93 : FVec F S2x1024x1 .f32 := broadcast S2x1024x1 cst_43
  have v94 : IVec S2x1024x1 1 := cmpf .olt v81 v93
  have cst_44 : F .f32 := Scalar.ofBits .f32 0x3F800000#32
  have v95 : FVec F S2x1024x1 .f32 := broadcast S2x1024x1 cst_44
  select v94 v95 v92

theorem pay1_stages (v76 : FVec F S2x1024x2432 .f32) : k0_pay1 v76 = stageS (stageY (stageM v76)) stageP := rfl

theorem max_at (v77 : FVec Ideal S2x1024x2432 .f32) (b : Fin 2) (s : Fin 1024) :
    @Eq EReal (multiReduction (F := Ideal) .maximumf [2] S2x1024 v77 0xFF800000#32 reduces_S2x1024x2432_S2x1024 (.inl rfl) rfl (ix2 b s)) ((Finset.univ : Finset (Fin 2432)).fold max (Ideal.ofBits .f32 0xFF800000#32) (fun d => v77 (ix3 b s d))) := by
  pointwise []
theorem scaled_at (v78 : FVec Ideal S2x1024 .f32) (b : Fin 2) (s : Fin 1024) :
    @Eq EReal (mulf (F := Ideal) (shapeCast S2x1024x1 v78 shapeCasts_S2x1024_S2x1024x1) (broadcast S2x1024x1 (Named.named κ "inv_max" (φ := .f32) 0x37924925#32)) (ix3 b s 0)) (v78 (ix2 b s) * Named.named (F := Ideal) κ "inv_max" (φ := .f32) 0x37924925#32) := by
  pointwise []

theorem stageY_at (v76 : FVec Ideal S2x1024x2432 .f32) (b : Fin 2) (s : Fin 1024) :
    @Eq EReal (stageY (stageM v76) (ix3 b s 0)) ((Finset.univ : Finset (Fin 2432)).fold max (Ideal.ofBits .f32 0xFF800000#32) (fun d => max (v76 (ix3 b s d)) (-(v76 (ix3 b s d) : EReal))) * ((1 / 57344 : ℝ) : EReal)) := by
  rw [← IdealRules.named_const.ideal_named_scalar κ "inv_max" (φ := .f32) 0x37924925#32 _ rfl]
  exact (scaled_at (stageM v76) b s).trans (congrArg (fun z : EReal => z * Named.named (F := Ideal) κ "inv_max" (φ := .f32) 0x37924925#32) (max_at (absf v76) b s))

theorem bits_sub : ∀ x : Fin 253, (BitVec.ofNat 32 x.val - 125#32).toInt = (x.val : ℤ) - 125 := by decide +kernel

theorem stageP_at (b : Fin 2) (s : Fin 1024) (x : Fin 253) :
    @Eq EReal (stageP (F := Ideal) (ix3 b s x)) (((2 : ℝ) ^ ((x.val : ℤ) - 125) : ℝ) : EReal) := by
  have : @Eq EReal (stageP (F := Ideal) (ix3 b s x)) (Ideal.exp2 (((BitVec.ofNat 32 x.val - 125#32).toInt : ℝ) : EReal)) := by
    unfold stageP
    pointwise []
    rfl
  rw [this, bits_sub, Ideal.exp2_coe]
  rw [show Real.rpow 2 (((x.val : ℤ) - 125 : ℤ) : ℝ) = (2 : ℝ) ^ ((((x.val : ℤ) - 125 : ℤ)) : ℝ) from rfl, Real.rpow_intCast]

theorem stageS_at (Y : FVec Ideal S2x1024x1 .f32) (P : FVec Ideal S2x1024x253 .f32) (b : Fin 2) (s : Fin 1024) :
    @Eq EReal (stageS Y P (ix3 b s 0)) (if (Y (ix3 b s 0) : EReal) < Ideal.ofBits .f32 0x00800000#32 then 1 else
      (Finset.univ : Finset (Fin 253)).fold min (Ideal.ofBits .f32 0x7F800000#32) (fun x => if (Y (ix3 b s 0) : EReal) < P (ix3 b s x) then (P (ix3 b s x) : EReal) else Ideal.ofBits .f32 0x7F800000#32)) := by
  unfold stageS
  pointwise []
end

section
variable {v76 : FVec Ideal S2x1024x2432 .f32} {g : Fin 2 → Fin 1024 → Fin 2432 → ℝ}

theorem pay1_at (hv : ∀ b s d, @Eq EReal (v76 (ix3 b s d)) (g b s d)) (hB : ∀ b s d, |g b s d| ≤ 2 ^ 120) (b : Fin 2) (s : Fin 1024) :
    @Eq EReal (k0_pay1 v76 (ix3 b s 0)) (rscale (rowY (g b s))) := by
  have hY : @Eq EReal (stageY (stageM v76) (ix3 b s 0)) (rowY (g b s)) := by
    rw [stageY_at]; simp only [hv]; rw [ofBits_bot, fold_amax, ← EReal.coe_mul]; rfl
  rw [pay1_stages]
  have h := stageS_at (stageY (stageM v76)) stageP b s
  simp only [hY, stageP_at, ofBits_tiny, ofBits_top] at h
  rw [h]
  have hlt := rowY_lt (g b s) (hB b s)
  by_cases c : rowY (g b s) < (2 : ℝ) ^ (-126 : ℤ)
  · rw [if_pos (by rw [EReal.coe_lt_coe_iff]; exact c)]
    unfold rscale; rw [if_pos c]; rfl
  · rw [if_neg (by rw [EReal.coe_lt_coe_iff]; exact c), rfold _ hlt c]

theorem pay3_at (p : FVec Ideal S2x1024x1 .f32) (hp : k0_pay1 v76 = p) (b : Fin 2) (s : Fin 1024) :
    @Eq EReal (k0_pay3 v76 (ix2 b s)) (p (ix3 b s 0)) := by
  unfold k0_pay3; rw [hp]; pointwise []

theorem pay2_stage (p : FVec Ideal S2x1024x1 .f32) (hp : k0_pay1 v76 = p) (b : Fin 2) (s : Fin 1024) (d : Fin 2432) :
    @Eq EReal (k0_pay2 v76 (ix3 b s d)) (min (Ideal.ofBits .f32 0x47600000#32) (max (Ideal.ofBits .f32 0xC7600000#32) (v76 (ix3 b s d) * Ideal.div 1 (p (ix3 b s 0))))) := by
  unfold k0_pay2; rw [hp]; pointwise []

theorem pay2_at (hv : ∀ b s d, @Eq EReal (v76 (ix3 b s d)) (g b s d)) (hB : ∀ b s d, |g b s d| ≤ 2 ^ 120) (b : Fin 2) (s : Fin 1024) (d : Fin 2432) :
    @Eq EReal (k0_pay2 v76 (ix3 b s d)) (code (rscale (rowY (g b s))) (g b s d)) := by
  obtain ⟨p, hp⟩ : ∃ p, k0_pay1 v76 = p := ⟨_, rfl⟩
  have h1 := pay1_at hv hB b s
  rw [hp] at h1
  rw [pay2_stage p hp, h1, hv, ofBits_57344, ofBits_neg_57344, Ideal.div_coe (rscale_pos _).ne', one_mul, ← EReal.coe_mul, code_coe]
end
end Cert.Ref
end
end
-- ==== Proof.RefRun.lean ====
module

public import proofs.«01_k».proof.Proof.Gen.ReferenceIdeal.Frame
public import Idealize.ShloMosaic.Lib.Pipeline.ValueKit
public import Idealize.ShloMosaic.Lib.Pointwise
public import proofs.«01_k».proof.Proof.Ref

@[expose] public section
set_option maxRecDepth 16384
noncomputable section

/-! The reference's four result arrays, from the inputs as real numbers. -/
namespace Cert.Ref
open Cert.ReferenceIdeal Cert.ReferenceIdeal.Gen Idealize.ShloMosaic Idealize.ShloMosaic.TcCoe
open Cert.Mth

/-- Eight arrays hold the inputs `D`. -/
structure Holds (D : Data 1024) (x0 : Vec Ideal S2x1024x2432 .fp8e4m3) (x1 : Vec Ideal S2x1024 .f32) (x2 : Vec Ideal S2x1024x2432 .bf16)
    (x3 : Vec Ideal S2x1024x2432 .fp8e5m2) (x4 : Vec Ideal S2x1024 .f32) (x5 : Vec Ideal S2x1024x2432 .fp8e5m2) (x6 : Vec Ideal S2x1024 .f32)
    (x7 : Vec Ideal S2x2432 .f32) : Prop where
  x : ∀ b s d, @Eq EReal (x0 (ix3 b s d)) (D.x b s d)
  sx : ∀ b s, @Eq EReal (x1 (ix2 b s)) (D.sx b s)
  f : ∀ b s d, @Eq EReal (x2 (ix3 b s d)) (D.f b s d)
  y : ∀ b s d, @Eq EReal (x3 (ix3 b s d)) (D.y b s d)
  sy : ∀ b s, @Eq EReal (x4 (ix2 b s)) (D.sy b s)
  h : ∀ b s d, @Eq EReal (x5 (ix3 b s d)) (D.h b s d)
  sh : ∀ b s, @Eq EReal (x6 (ix2 b s)) (D.sh b s)
  w : ∀ b d, @Eq EReal (x7 (ix2 b d)) (D.w b d)

section
variable {D : Data 1024} {x0 : Vec Ideal S2x1024x2432 .fp8e4m3} {x1 : Vec Ideal S2x1024 .f32} {x2 : Vec Ideal S2x1024x2432 .bf16}
    {x3 : Vec Ideal S2x1024x2432 .fp8e5m2} {x4 : Vec Ideal S2x1024 .f32} {x5 : Vec Ideal S2x1024x2432 .fp8e5m2} {x6 : Vec Ideal S2x1024 .f32}
    {x7 : Vec Ideal S2x2432 .f32}

theorem ld3 {e : EltTy} (x : Vec Ideal S2x1024x2432 e) : View.ld x r0_0 = x := View.ld_unit_lit _ x (by decide)
theorem ld2 {e : EltTy} (x : Vec Ideal S2x1024 e) : View.ld x r0_1 = x := View.ld_unit_lit _ x (by decide)
theorem ldw {e : EltTy} (x : Vec Ideal S2x2432 e) : View.ld x r0_4 = x := View.ld_unit_lit _ x (by decide)

theorem out9_at (H : Holds D x0 x1 x2 x3 x4 x5 x6 x7) (b : Fin 2) (n : Fin 8) (k : Fin 3) (d : Fin 2432) :
    @Eq EReal (out0_9 x0 x1 x2 x3 x4 x5 x6 x7 (ix4 b n k d)) ((D.block n).out b k d) := by
  have e : out0_9 x0 x1 x2 x3 x4 x5 x6 x7 = k0_pay10 (k0_pay4 x3 x4) (k0_pay5 x5 x6) (k0_pay8 x0 x1) (k0_pay9 x5 x6) x2 := by
    unfold out0_9 k0_pay16 k0_pay15 k0_pay14 k0_pay13
    rw [ld3, ld3, ld3, ld3, ld2, ld2, ld2]
    exact View.canon_cons_unit_lit _ _ _ (by decide)
  rw [e, pay10_at]
  simp only [pay4_at H.y H.sy, pay5_at H.h H.sh, pay8_at H.x H.sx, pay9_at H.h H.sh, H.f, ← EReal.coe_mul, coe_sum]
  rfl

theorem out8_at (H : Holds D x0 x1 x2 x3 x4 x5 x6 x7) (b : Fin 2) (k : Fin 3) (d : Fin 2432) :
    @Eq EReal (out0_8 x0 x1 x2 x3 x4 x5 x6 x7 (ix3 b k d)) (∑ n, (D.block n).out b k d) := by
  have e : out0_8 x0 x1 x2 x3 x4 x5 x6 x7 = k0_pay11 (k0_pay4 x3 x4) (k0_pay5 x5 x6) (k0_pay8 x0 x1) (k0_pay9 x5 x6) x2 := by
    unfold out0_8 k0_pay16 k0_pay15 k0_pay14 k0_pay13
    rw [ld3, ld3, ld3, ld3, ld2, ld2, ld2]
    exact View.canon_cons_unit_lit _ _ _ (by decide)
  rw [e, pay11_at]
  refine Finset.sum_congr rfl fun n _ => ?_
  rw [pay10_at]
  simp only [pay4_at H.y H.sy, pay5_at H.h H.sh, pay8_at H.x H.sx, pay9_at H.h H.sh, H.f, ← EReal.coe_mul, coe_sum]
  rfl

theorem pay17_at (H : Holds D x0 x1 x2 x3 x4 x5 x6 x7) (b : Fin 2) (s : Fin 1024) (d : Fin 2432) :
    @Eq EReal (k0_pay17 x0 x1 x2 x3 x4 x5 x6 x7 (ix3 b s d)) (D.g b s d) := by
  unfold k0_pay17 k0_pay15 k0_pay14 k0_pay13
  rw [ld3, ld3, ld3, ld2, ld2, ld2, ldw]
  exact pay12_at (fun b s d => pay4_at H.y H.sy b s d) (fun b s d => pay5_at H.h H.sh b s d) (fun b s => pay7_at H.x H.sx b s)
    (fun b s d => pay8_at H.x H.sx b s d) H.w b s d

theorem out10_at (H : Holds D x0 x1 x2 x3 x4 x5 x6 x7) (G : D.Good) (b : Fin 2) (s : Fin 1024) (d : Fin 2432) :
    @Eq EReal (out0_10 x0 x1 x2 x3 x4 x5 x6 x7 (ix3 b s d)) (D.cod b s d) := by
  have e : out0_10 x0 x1 x2 x3 x4 x5 x6 x7 = k0_pay2 (k0_pay17 x0 x1 x2 x3 x4 x5 x6 x7) := View.canon_cons_unit_lit _ _ _ (by decide)
  rw [e, pay2_at (pay17_at H) G.abs_g]; rfl

theorem out11_at (H : Holds D x0 x1 x2 x3 x4 x5 x6 x7) (G : D.Good) (b : Fin 2) (s : Fin 1024) :
    @Eq EReal (out0_11 x0 x1 x2 x3 x4 x5 x6 x7 (ix2 b s)) (D.scl b s) := by
  have e : out0_11 x0 x1 x2 x3 x4 x5 x6 x7 = k0_pay3 (k0_pay17 x0 x1 x2 x3 x4 x5 x6 x7) := View.canon_cons_unit_lit _ _ _ (by decide)
  obtain ⟨p, hp⟩ : ∃ p, k0_pay1 (k0_pay17 x0 x1 x2 x3 x4 x5 x6 x7) = p := ⟨_, rfl⟩
  rw [e, pay3_at p hp, ← hp, pay1_at (pay17_at H) G.abs_g]; rfl
end

/-! ## The arrays after the run -/

variable (m : (ℓ : Loc nD τ sig) → Buf (Elt Ideal) ℓ) (c : Dev nD) {D : Data 1024}

/-- The memory the kernel call starts from holds the inputs `D`. -/
abbrev HoldsV (D : Data 1024) : Prop := Holds D (V m c main_v0) (V m c main_arg1) (V m c main_arg2) (V m c main_v1) (V m c main_arg4) (V m c main_v2) (V m c main_arg6) (V m c main_arg7)

theorem idxs : ∀ t : Fin cfg0.N, win0_0.index t = ![0, 0, 0] ∧ win0_1.index t = ![0, 0] ∧ win0_2.index t = ![0, 0, 0] ∧ win0_3.index t = ![0, 0, 0]
    ∧ win0_4.index t = ![0, 0] ∧ win0_5.index t = ![0, 0, 0] ∧ win0_6.index t = ![0, 0] ∧ win0_7.index t = ![0, 0]
    ∧ win0_8.index t = ![0, 0, 0] ∧ win0_9.index t = ![0, 0, 0, 0] ∧ win0_10.index t = ![0, 0, 0] ∧ win0_11.index t = ![0, 0] :=
  (by decide +kernel : ∀ t : Fin grid0.N, win0_0.index t = ![0, 0, 0] ∧ win0_1.index t = ![0, 0] ∧ win0_2.index t = ![0, 0, 0] ∧ win0_3.index t = ![0, 0, 0]
    ∧ win0_4.index t = ![0, 0] ∧ win0_5.index t = ![0, 0, 0] ∧ win0_6.index t = ![0, 0] ∧ win0_7.index t = ![0, 0]
    ∧ win0_8.index t = ![0, 0, 0] ∧ win0_9.index t = ![0, 0, 0, 0] ∧ win0_10.index t = ![0, 0, 0] ∧ win0_11.index t = ![0, 0])

theorem blk_whole (t : Fin cfg0.N) : iblk m c 0 t = V m c main_v0 ∧ iblk m c 1 t = V m c main_arg1 ∧ iblk m c 2 t = V m c main_arg2 ∧ iblk m c 3 t = V m c main_v1
    ∧ iblk m c 4 t = V m c main_arg4 ∧ iblk m c 5 t = V m c main_v2 ∧ iblk m c 6 t = V m c main_arg6 ∧ iblk m c 7 t = V m c main_arg7 := by
  refine ⟨?_, ?_, ?_, ?_, ?_, ?_, ?_, ?_⟩ <;> (funext i; blk_ext [iblk, idxs t])

theorem holds_blk (H : HoldsV m c D) (t : Fin cfg0.N) :
    Holds D (iblk m c 0 t) (iblk m c 1 t) (iblk m c 2 t) (iblk m c 3 t) (iblk m c 4 t) (iblk m c 5 t) (iblk m c 6 t) (iblk m c 7 t) := by
  obtain ⟨h0, h1, h2, h3, h4, h5, h6, h7⟩ := blk_whole m c t
  rw [h0, h1, h2, h3, h4, h5, h6, h7]; exact H

theorem emb8 (t : Fin cfg0.N) (y0 : Fin 2) (y1 : Fin 3) (y2 : Fin 2432) : ((View.whole main_v3_0).slice (win0_8.rect t)).emb (ix3 y0 y1 y2) = (ix3 y0 y1 y2 : S2x3x2432.Idx) := by
  have h := (idxs t).2.2.2.2.2.2.2.2.1
  blk_ext [h]

theorem emb9 (t : Fin cfg0.N) (y0 : Fin 2) (y1 : Fin 8) (y2 : Fin 3) (y3 : Fin 2432) : ((View.whole main_v3_1).slice (win0_9.rect t)).emb (ix4 y0 y1 y2 y3) = (ix4 y0 y1 y2 y3 : S2x8x3x2432.Idx) := by
  have h := (idxs t).2.2.2.2.2.2.2.2.2.1
  blk_ext [h]

theorem emb10 (t : Fin cfg0.N) (y0 : Fin 2) (y1 : Fin 1024) (y2 : Fin 2432) : ((View.whole main_v3_2).slice (win0_10.rect t)).emb (ix3 y0 y1 y2) = (ix3 y0 y1 y2 : S2x1024x2432.Idx) := by
  have h := (idxs t).2.2.2.2.2.2.2.2.2.2.1
  blk_ext [h]

theorem emb11 (t : Fin cfg0.N) (y0 : Fin 2) (y1 : Fin 1024) : ((View.whole main_v3_3).slice (win0_11.rect t)).emb (ix2 y0 y1) = (ix2 y0 y1 : S2x1024.Idx) := by
  have h := (idxs t).2.2.2.2.2.2.2.2.2.2.2
  blk_ext [h]

theorem arr8 (H : HoldsV m c D) : (dats m 0 c).arrAt 8 cfg0.N = fun i : S2x3x2432.Idx => (∑ n, (D.block n).out (i 0) (i 1) (i 2) : EReal) := by
  refine (dats m 0 c).arrAt_eq_of_covers 8 _ (by decide +kernel) fun t hf y => ?_
  blk_simp; rw [after0_8]
  idx_vars y
  refine (out8_at (holds_blk m c H t) _ _ _).trans ?_
  exact (congrArg (fun i : S2x3x2432.Idx => (∑ n, (D.block n).out (i 0) (i 1) (i 2) : EReal)) (emb8 t y0 y1 y2)).symm

theorem arr9 (H : HoldsV m c D) : (dats m 0 c).arrAt 9 cfg0.N = fun i : S2x8x3x2432.Idx => ((D.block (i 1)).out (i 0) (i 2) (i 3) : EReal) := by
  refine (dats m 0 c).arrAt_eq_of_covers 9 _ (by decide +kernel) fun t hf y => ?_
  blk_simp; rw [after0_9]
  idx_vars y
  refine (out9_at (holds_blk m c H t) _ _ _ _).trans ?_
  exact (congrArg (fun i : S2x8x3x2432.Idx => ((D.block (i 1)).out (i 0) (i 2) (i 3) : EReal)) (emb9 t y0 y1 y2 y3)).symm

theorem arr10 (H : HoldsV m c D) (hg : D.Good) : (dats m 0 c).arrAt 10 cfg0.N = fun i : S2x1024x2432.Idx => (D.cod (i 0) (i 1) (i 2) : EReal) := by
  refine (dats m 0 c).arrAt_eq_of_covers 10 _ (by decide +kernel) fun t hf y => ?_
  blk_simp; rw [after0_10]
  idx_vars y
  refine (out10_at (holds_blk m c H t) hg _ _ _).trans ?_
  exact (congrArg (fun i : S2x1024x2432.Idx => (D.cod (i 0) (i 1) (i 2) : EReal)) (emb10 t y0 y1 y2)).symm

theorem arr11 (H : HoldsV m c D) (hg : D.Good) : (dats m 0 c).arrAt 11 cfg0.N = fun i : S2x1024.Idx => (D.scl (i 0) (i 1) : EReal) := by
  refine (dats m 0 c).arrAt_eq_of_covers 11 _ (by decide +kernel) fun t hf y => ?_
  blk_simp; rw [after0_11]
  idx_vars y
  refine (out11_at (holds_blk m c H t) hg _ _).trans ?_
  exact (congrArg (fun i : S2x1024.Idx => (D.scl (i 0) (i 1) : EReal)) (emb11 t y0 y1)).symm

end Cert.Ref
end
-- ==== Proof.Pre.lean ====
module

public import proofs.«01_k».proof.Pre_finite
public import Idealize.ShloMosaic.Lib.Pointwise
public import Idealize.ShloMosaic.Lib.ReduceAll
public import Idealize.ShloMosaic.Lib.IdealHost
public import proofs.«01_k».proof.Proof.Exps
public import proofs.«01_k».proof.Proof.Spec

@[expose] public section
noncomputable section

/-! What the precondition says of the arguments, entry by entry, and the inputs as real numbers. -/
namespace Cert.Pre
open Cert.Pre_finite Idealize.ShloMosaic
open Cert.Mth

theorem and1 : ∀ x y : BitVec 1, x &&& y = 1#1 → x = 1#1 ∧ y = 1#1 := by decide
theorem ne1 {w : ℕ} (x y : BitVec w) (h : IntOp.cmpi .ne x y = 1#1) : x ≠ y := by
  intro e; subst e; revert h; show BitVec.ofBool (x != x) = 1#1 → False; simp
theorem lt1 (x y : EReal) (h : Ideal.cmp .olt x y = 1#1) : x < y := by
  by_contra n; revert h; simp [Ideal.cmp, n]
theorem le1 (x y : EReal) (h : Ideal.cmp .ole x y = 1#1) : x ≤ y := by
  by_contra n; revert h; simp [Ideal.cmp, n]

instance : Subsingleton S_.Idx := ⟨fun _ _ => funext fun a => a.elim0⟩

/-- The shape relations the precondition's operations take. -/
theorem facts : Facts where
  natLt_8_32 := by decide
  bcast_S_S2x1024x2432 := by decide
  reducesTo_S2x1024x2432_S_d0_1_2 := by decide
  h_S_ := by decide
  bcast_S_S2x1024 := by decide
  reducesTo_S2x1024_S_d0_1 := by decide
  bcast_S_S2x2432 := by decide
  reducesTo_S2x2432_S_d0_1 := by decide

/-! ## Codes of finite numbers -/

theorem bits3 : ∀ u : BitVec 8, u.setWidth 32 &&& 127#32 ≠ 127#32 → ¬((u.extractLsb' 3 4).toNat = 15 ∧ (u.extractLsb' 0 3).toNat = 7) := by decide +kernel
theorem bits2 : ∀ u : BitVec 8, u.setWidth 32 &&& 124#32 ≠ 124#32 → (u.extractLsb' 2 5).toNat ≤ 30 ∧ (u.extractLsb' 0 2).toNat ≤ 3 := by decide +kernel

theorem fin3 (u : BitVec 8) (h : u.setWidth 32 &&& 127#32 ≠ 127#32) : ((Ideal.e4m3fn u).toReal : EReal) = Ideal.e4m3fn u := by
  have := bits3 u h
  unfold Ideal.e4m3fn
  simp only [if_neg this]
  split <;> rfl

theorem fin2 (u : BitVec 8) (h : u.setWidth 32 &&& 124#32 ≠ 124#32) : ((Ideal.ieee 5 2 u).toReal : EReal) = Ideal.ieee 5 2 u ∧ |(Ideal.ieee 5 2 u).toReal| ≤ 57344 := by
  obtain ⟨h1, h2⟩ := bits2 u h
  have hn : ¬(u.extractLsb' 2 5).toNat = 2 ^ 5 - 1 := by omega
  have hs : |(if (u.extractLsb' (5 + 2) 1 == 1#1) = true then (-1 : ℝ) else 1)| = 1 := by split <;> norm_num
  unfold Ideal.ieee
  simp only [if_neg hn]
  generalize (if (u.extractLsb' (5 + 2) 1 == 1#1) = true then (-1 : ℝ) else 1) = sg at hs ⊢
  generalize (u.extractLsb' 2 5).toNat = ex at h1 ⊢
  generalize (u.extractLsb' 0 2).toNat = fr at h2 ⊢
  have h2' : (fr : ℝ) ≤ 3 := by exact_mod_cast h2
  have h1' : (ex : ℤ) ≤ 30 := by exact_mod_cast h1
  split
  · refine ⟨rfl, ?_⟩
    rw [EReal.toReal_coe, abs_mul, abs_mul, hs, one_mul, Nat.abs_cast]
    norm_num
    linarith
  · refine ⟨rfl, ?_⟩
    rw [EReal.toReal_coe, abs_mul, abs_mul, hs, one_mul, Nat.abs_cast]
    have hp : (2 : ℝ) ^ ((ex : ℤ) - (2 ^ (5 - 1) - 1) - (2 : ℕ)) ≤ 2 ^ (13 : ℤ) := zpow_le_zpow_right₀ (by norm_num) (by norm_num; linarith)
    rw [abs_of_pos (by positivity)]
    push_cast at hp ⊢
    refine (mul_le_mul (b := (7 : ℝ)) (d := 2 ^ (13 : ℤ)) (by norm_num; linarith) hp (by positivity) (by norm_num)).trans (by norm_num)

theorem finR (x : EReal) (h : max x (-x) < ⊤) : (x.toReal : EReal) = x := by
  refine EReal.coe_toReal (fun e => ?_) (fun e => ?_) <;> (subst e; simp at h)
theorem boundR (x : EReal) (h : max x (-x) ≤ (((2 : ℝ) ^ 40 : ℝ) : EReal)) : (x.toReal : EReal) = x ∧ |x.toReal| ≤ 2 ^ 40 := by
  have e := finR x (lt_of_le_of_lt h (EReal.coe_lt_top _))
  refine ⟨e, ?_⟩
  obtain ⟨h1, h2⟩ := max_le_iff.mp h
  rw [← e] at h1 h2
  rw [← EReal.coe_neg] at h2
  exact abs_le'.mpr ⟨EReal.coe_le_coe_iff.mp h1, EReal.coe_le_coe_iff.mp h2⟩

/-! ## The precondition at an entry -/

variable [Facts] {a0 : IVec S2x1024x2432 8} {a1 : FVec Ideal S2x1024 .f32} {a2 : FVec Ideal S2x1024x2432 .bf16} {a3 : IVec S2x1024x2432 8}
  {a4 : FVec Ideal S2x1024 .f32} {a5 : IVec S2x1024x2432 8} {a6 : FVec Ideal S2x1024 .f32} {a7 : FVec Ideal S2x2432 .f32}

/-- What the precondition says. -/
structure Entries (a0 : IVec S2x1024x2432 8) (a1 : FVec Ideal S2x1024 .f32) (a3 : IVec S2x1024x2432 8)
    (a4 : FVec Ideal S2x1024 .f32) (a5 : IVec S2x1024x2432 8) (a6 : FVec Ideal S2x1024 .f32) (a7 : FVec Ideal S2x2432 .f32) : Prop where
  p0 : ∀ i, (a0 i).setWidth 32 &&& 127#32 ≠ 127#32
  p3 : ∀ i, (a3 i).setWidth 32 &&& 124#32 ≠ 124#32
  p5 : ∀ i, (a5 i).setWidth 32 &&& 124#32 ≠ 124#32
  p1 : ∀ i, @LT.lt EReal _ (max (a1 i) (-a1 i)) ⊤
  p4 : ∀ i, @LE.le EReal _ (max (a4 i) (-a4 i)) (((2 : ℝ) ^ 40 : ℝ) : EReal)
  p6 : ∀ i, @LE.le EReal _ (max (a6 i) (-a6 i)) (((2 : ℝ) ^ 40 : ℝ) : EReal)
  p7 : ∀ i, @LE.le EReal _ (max (a7 i) (-a7 i)) (((2 : ℝ) ^ 40 : ℝ) : EReal)

theorem holds (h : fn (F := Ideal) a0 a1 a2 a3 a4 a5 a6 a7 = fun _ => 1#1) : Entries a0 a1 a3 a4 a5 a6 a7 := by
  have h := congrFun h (Shape.Idx.first (s := S_) (by decide))
  unfold fn fn_part1 fn_part2 at h
  obtain ⟨h, h7⟩ := and1 _ _ h
  obtain ⟨h, h6⟩ := and1 _ _ h
  obtain ⟨h, h4⟩ := and1 _ _ h
  obtain ⟨h, h1⟩ := and1 _ _ h
  obtain ⟨h, h5⟩ := and1 _ _ h
  obtain ⟨h0, h3⟩ := and1 _ _ h
  refine ⟨fun i => ?_, fun i => ?_, fun i => ?_, fun i => ?_, fun i => ?_, fun i => ?_, fun i => ?_⟩
  · exact ne1 _ _ (Host.reduce_andi_all _ _ _ _ _ h0 i)
  · exact ne1 _ _ (Host.reduce_andi_all _ _ _ _ _ h3 i)
  · exact ne1 _ _ (Host.reduce_andi_all _ _ _ _ _ h5 i)
  · exact (lt1 _ _ (Host.reduce_andi_all _ _ _ _ _ h1 i)).trans_eq ofBits_top
  · exact (le1 _ _ (Host.reduce_andi_all _ _ _ _ _ h4 i)).trans_eq ofBits_2p40
  · exact (le1 _ _ (Host.reduce_andi_all _ _ _ _ _ h6 i)).trans_eq ofBits_2p40
  · exact (le1 _ _ (Host.reduce_andi_all _ _ _ _ _ h7 i)).trans_eq ofBits_2p40

/-- The inputs as real numbers. -/
def data (a0 : IVec S2x1024x2432 8) (a1 : FVec Ideal S2x1024 .f32) (a2 : FVec Ideal S2x1024x2432 .bf16) (a3 : IVec S2x1024x2432 8)
    (a4 : FVec Ideal S2x1024 .f32) (a5 : IVec S2x1024x2432 8) (a6 : FVec Ideal S2x1024 .f32) (a7 : FVec Ideal S2x2432 .f32) : Data 1024 where
  x b s d := (Ideal.e4m3fn (a0 (ix3 b s d))).toReal
  y b s d := (Ideal.ieee 5 2 (a3 (ix3 b s d))).toReal
  h b s d := (Ideal.ieee 5 2 (a5 (ix3 b s d))).toReal
  sx b s := (show EReal from a1 (ix2 b s)).toReal
  sy b s := (show EReal from a4 (ix2 b s)).toReal
  sh b s := (show EReal from a6 (ix2 b s)).toReal
  w b d := (show EReal from a7 (ix2 b d)).toReal
  f b s d := a2 (ix3 b s d)

theorem good (H : Entries a0 a1 a3 a4 a5 a6 a7) : (data a0 a1 a2 a3 a4 a5 a6 a7).Good where
  y _ _ _ := (fin2 _ (H.p3 _)).2
  h _ _ _ := (fin2 _ (H.p5 _)).2
  sy _ _ := (boundR _ (H.p4 _)).2
  sh _ _ := (boundR _ (H.p6 _)).2
  w _ _ := (boundR _ (H.p7 _)).2

end Cert.Pre
end
-- ==== Proof.Final.lean ====
module

public import proofs.«01_k».proof.Defs
public import proofs.«01_k».proof.Proof.Gen.KernelIdeal.Value
public import proofs.«01_k».proof.Proof.Gen.ReferenceIdeal.Value
public import proofs.«01_k».proof.Proof.KRun
public import proofs.«01_k».proof.Proof.RefRun
public import proofs.«01_k».proof.Proof.Pre

@[expose] public section
noncomputable section

/-! The two programs end with the same four arrays. -/
namespace Cert.Ker
open Cert.KernelIdeal Cert.KernelIdeal.Gen Idealize.ShloMosaic Idealize.ShloMosaic.TcCoe
open Cert.Mth
variable (m : (ℓ : Loc nD τ sig) → Buf (Elt Ideal) ℓ) (c : Dev nD)

/-- The argument arrays as real numbers. -/
def args : Data 1024 := Pre.data (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))

abbrev EntriesM : Prop := Pre.Entries (m ((c : Thread nD τ).loc main_arg0)) (m ((c : Thread nD τ).loc main_arg1)) (m ((c : Thread nD τ).loc main_arg3))
  (m ((c : Thread nD τ).loc main_arg4)) (m ((c : Thread nD τ).loc main_arg5)) (m ((c : Thread nD τ).loc main_arg6)) (m ((c : Thread nD τ).loc main_arg7))

theorem v0_eq : V m c main_v0 = bitcastToFloat (F := Ideal) .fp8e4m3 (m ((c : Thread nD τ).loc main_arg0)) := rfl
theorem v1_eq : V m c main_v1 = bitcastToFloat (F := Ideal) .fp8e5m2 (m ((c : Thread nD τ).loc main_arg3)) := rfl
theorem v2_eq : V m c main_v2 = bitcastToFloat (F := Ideal) .fp8e5m2 (m ((c : Thread nD τ).loc main_arg5)) := rfl

theorem holdsV (E : EntriesM m c) : HoldsV m c (args m c) := by
  unfold HoldsV
  rw [v0_eq, v1_eq, v2_eq, V_main_arg1 m c, V_main_arg2 m c, V_main_arg4 m c, V_main_arg6 m c, V_main_arg7 m c]
  exact { x := fun b s d => (Pre.fin3 _ (E.p0 _)).symm,
           y := fun b s d => (Pre.fin2 _ (E.p3 _)).1.symm,
           h := fun b s d => (Pre.fin2 _ (E.p5 _)).1.symm,
           sx := fun b s => (Pre.finR _ (E.p1 _)).symm,
           sy := fun b s => (Pre.boundR _ (E.p4 _)).1.symm,
           sh := fun b s => (Pre.boundR _ (E.p6 _)).1.symm,
           w := fun b d => (Pre.boundR _ (E.p7 _)).1.symm,
           f := fun b s d => rfl }
end Cert.Ker

namespace Cert.Ref
open Cert.ReferenceIdeal Cert.ReferenceIdeal.Gen Idealize.ShloMosaic Idealize.ShloMosaic.TcCoe
open Cert.Mth
variable (m : (ℓ : Loc nD τ sig) → Buf (Elt Ideal) ℓ) (c : Dev nD)

/-- The argument arrays as real numbers. -/
def args : Data 1024 := Pre.data (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))

abbrev EntriesM : Prop := Pre.Entries (m ((c : Thread nD τ).loc main_arg0)) (m ((c : Thread nD τ).loc main_arg1)) (m ((c : Thread nD τ).loc main_arg3))
  (m ((c : Thread nD τ).loc main_arg4)) (m ((c : Thread nD τ).loc main_arg5)) (m ((c : Thread nD τ).loc main_arg6)) (m ((c : Thread nD τ).loc main_arg7))

theorem v0_eq : V m c main_v0 = bitcastToFloat (F := Ideal) .fp8e4m3 (m ((c : Thread nD τ).loc main_arg0)) := rfl
theorem v1_eq : V m c main_v1 = bitcastToFloat (F := Ideal) .fp8e5m2 (m ((c : Thread nD τ).loc main_arg3)) := rfl
theorem v2_eq : V m c main_v2 = bitcastToFloat (F := Ideal) .fp8e5m2 (m ((c : Thread nD τ).loc main_arg5)) := rfl

theorem holdsV (E : EntriesM m c) : HoldsV m c (args m c) := by
  unfold HoldsV
  rw [v0_eq, v1_eq, v2_eq, V_main_arg1 m c, V_main_arg2 m c, V_main_arg4 m c, V_main_arg6 m c, V_main_arg7 m c]
  exact { x := fun b s d => (Pre.fin3 _ (E.p0 _)).symm,
           y := fun b s d => (Pre.fin2 _ (E.p3 _)).1.symm,
           h := fun b s d => (Pre.fin2 _ (E.p5 _)).1.symm,
           sx := fun b s => (Pre.finR _ (E.p1 _)).symm,
           sy := fun b s => (Pre.boundR _ (E.p4 _)).1.symm,
           sh := fun b s => (Pre.boundR _ (E.p6 _)).1.symm,
           w := fun b d => (Pre.boundR _ (E.p7 _)).1.symm,
           f := fun b s d => rfl }
end Cert.Ref

namespace Cert
open Idealize.ShloMosaic Idealize.ShloMosaic.TcCoe
open Cert.Mth

theorem args_eq (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ)
    (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (E : Ker.EntriesM m c) : Ref.args m' c = Ker.args m c ∧ Ref.EntriesM m' c := by
  unfold Ref.args Ker.args Ref.EntriesM
  rw [h0, h1, h2, h3, h4, h5, h6, h7]
  exact ⟨rfl, E⟩

theorem algebraic : algebraic_KernelIdeal_ReferenceIdeal_pre_finite (hKernelIdeal := KernelIdeal.Gen.facts) (hReferenceIdeal := ReferenceIdeal.Gen.facts) (hPre_finite := Pre.facts) := by
  haveI := Pre.facts
  intro m g m' g' hp hm
  have E : ∀ c, Ker.EntriesM m c := fun c => Pre.holds (hp c)
  have A : ∀ c, Ref.args m' c = Ker.args m c ∧ Ref.EntriesM m' c := fun c => by
    obtain ⟨h0, h1, h2, h3, h4, h5, h6, h7⟩ := hm c
    exact args_eq m m' c h0 h1 h2 h3 h4 h5 h6 h7 (E c)
  have G : ∀ c, (Ker.args m c).Good := fun c => Pre.good (E c)
  refine ⟨fun c => fun i : KernelIdeal.S2x3x2432.Idx => (∑ n, ((Ker.args m c).block n).out (i 0) (i 1) (i 2) : EReal),
    fun c => fun i : KernelIdeal.S2x8x3x2432.Idx => (((Ker.args m c).block (i 1)).out (i 0) (i 2) (i 3) : EReal),
    fun c => fun i : KernelIdeal.S2x1024x2432.Idx => ((Ker.args m c).cod (i 0) (i 1) (i 2) : EReal),
    fun c => fun i : KernelIdeal.S2x1024.Idx => ((Ker.args m c).scl (i 0) (i 1) : EReal), ?_, ?_⟩
  · refine (θ_run _ _ _).mono (fun r h c => ?_) (KernelIdeal.Value.run_blocks m g)
    obtain ⟨o0, o1, o2, o3, k⟩ := h c
    have H := Ker.holdsV m c (E c)
    exact ⟨o0.trans (Ker.arr8 m c H), o1.trans (Ker.arr9 m c H), o2.trans (Ker.arr10 m c H (G c)), o3.trans (Ker.arr11 m c H (G c)), k⟩
  · refine (θ_run _ _ _).mono (fun r h c => ?_) (ReferenceIdeal.Value.run_blocks m' g')
    obtain ⟨o0, o1, o2, o3, k⟩ := h c
    have H := Ref.holdsV m' c (A c).2
    rw [(A c).1] at H
    exact ⟨o0.trans (Ref.arr8 m' c H), o1.trans (Ref.arr9 m' c H), o2.trans (Ref.arr10 m' c H (G c)), o3.trans (Ref.arr11 m' c H (G c)), k⟩

end Cert
end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Frame
public import proofs.«01_k».proof.Proof.Gen.ReferenceIdeal.Value
public import proofs.«01_k».proof.Proof.Final

@[expose] public section

theorem Cert.Proof.claim : Cert.Claim :=
  ⟨Cert.Kernel.Gen.facts, Cert.KernelIdeal.Gen.facts, Cert.ReferenceIdeal.Gen.facts, Cert.Pre.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    ⟨Idealize.ShloMosaic.IdealRules.named_const.statement Cert.KernelIdeal.κ "inv_d" .f32 0x39D79436#32 _ rfl,
      Idealize.ShloMosaic.IdealRules.named_const.statement Cert.KernelIdeal.κ "inv_d2" .f32 0x34358A48#32 _ rfl,
      Idealize.ShloMosaic.IdealRules.named_const.statement Cert.KernelIdeal.κ "inv_max" .f32 0x37924925#32 _ rfl⟩,
    Cert.algebraic⟩
